-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x32x128 : S_.BroadcastsInDim S1x1024x32x128 (![] : Fin 0 → Fin S1x1024x32x128.rank)

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S1x1024x1024 1 × IVec S1024x1024 1 × IVec S1x1024x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x32x128 .f32 := Host.absf main_arg2
  let main_cst_1 : FVec F S_ .f32 := constant S_ .f32 0x7F800000#32
  let main_v7 : FVec F S1x1024x32x128 .f32 := broadcastInDim S1x1024x32x128 ![] bcast_S_S1x1024x32x128 main_cst_1
  let main_v8 : IVec S1x1024x32x128 1 := cmpf .olt main_v6 main_v7
  (main_v2, main_v5, main_v8)
-- ==== Pre_finite_scores_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x32x128 : S_.BroadcastsInDim S1x1024x32x128 (![] : Fin 0 → Fin S1x1024x32x128.rank)

variable [Facts]

def fn {F : FTy → Type} [FloatOps F] (main_arg0 : FVec F S1x1024x1024 .f32) (main_arg1 : FVec F S1024x4096 .f32) (main_arg2 : FVec F S1x1024x32x128 .f32) (main_arg3 : FVec F S1x1024x32x128 .f32) (main_arg4 : FVec F S4096x1024 .f32) : IVec S1x1024x1024 1 × IVec S1024x4096 1 × IVec S1x1024x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x1024x32x128 .f32 := Host.absf main_arg2
  let main_cst_1 : FVec F S_ .f32 := constant S_ .f32 0x7F800000#32
  let main_v7 : FVec F S1x1024x32x128 .f32 := broadcastInDim S1x1024x32x128 ![] bcast_S_S1x1024x32x128 main_cst_1
  let main_v8 : IVec S1x1024x32x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S1024x8x128 : Shape := ⟨3, ![1024, 8, 128]⟩
abbrev S512x1024 : Shape := ⟨2, ![512, 1024]⟩
abbrev S256x1024 : Shape := ⟨2, ![256, 1024]⟩
abbrev S8 : Shape := ⟨1, ![8]⟩
abbrev S2 : Shape := ⟨1, ![2]⟩
abbrev S_ : Shape := ⟨0, ![]⟩
abbrev S1 : Shape := ⟨1, ![1]⟩
abbrev S1x1024x8x128 : Shape := ⟨4, ![1, 1024, 8, 128]⟩
abbrev S512x128 : Shape := ⟨2, ![512, 128]⟩
abbrev S1024x1x128 : Shape := ⟨3, ![1024, 1, 128]⟩
abbrev S1024x128 : Shape := ⟨2, ![1024, 128]⟩
abbrev S512 : Shape := ⟨1, ![512]⟩
abbrev S512x1 : Shape := ⟨2, ![512, 1]⟩
abbrev S128x1024 : Shape := ⟨2, ![128, 1024]⟩
abbrev S1x512x1024 : Shape := ⟨3, ![1, 512, 1024]⟩

abbrev nBuf : Space → Nat
  | .hbm => 6
  | .vmem => 15
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x8x128, .f32⟩
  | .local _ .vmem, ⟨5, _⟩ => ⟨S1024x8x128, .f32⟩
  | .local _ .vmem, ⟨6, _⟩ => ⟨S1024x8x128, .bf16⟩
  | .local _ .vmem, ⟨7, _⟩ => ⟨S1024x8x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S256x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_28 : BitVec 32 := 1#32
  let v65 : BitVec 32 := Scalar.muli v4 c1_i32_28
  let v66 : BitVec 32 := Scalar.addi c0_i32_29 v65
  v66.toNat
def k0_dev2 (d0 : Dev nD) : Nat :=
  let c0_i32_32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_31 : BitVec 32 := 1#32
  let v67 : BitVec 32 := Scalar.muli v5 c1_i32_31
  let v68 : BitVec 32 := Scalar.addi c0_i32_32 v67
  v68.toNat
def k0_off1 (d0 : Dev nD) : Fin 4 → Nat :=
  let c0_i32_34 : BitVec 32 := 0#32
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_37 : BitVec 32 := 0#32
  ![0, 0, v3.toNat, 0]
def k0_off2 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 1 := Scalar.cmpi .eq v2 c1_i32_1
  let c2_i32 : BitVec 32 := 2#32
  let v7 : BitVec 1 := Scalar.cmpi .eq v2 c2_i32
  let v8 : BitVec 1 := Scalar.ori v6 v7
  let v9 : BitVec 32 := Scalar.extui v8
  let v55 : BitVec 32 := Scalar.subi c1_i32_21 v9
  let c256_i32_22 : BitVec 32 := 256#32
  let v56 : BitVec 32 := Scalar.muli v55 c256_i32_22
  let c0_i32_209 : BitVec 32 := 0#32
  ![v56.toNat, 0]
def k0_dev3 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_205 : BitVec 32 := 1#32
  let v343 : BitVec 32 := Scalar.muli v4 c1_i32_205
  let v344 : BitVec 32 := Scalar.addi c0_i32_206 v343
  v344.toNat
def k0_off3 (d0 : Dev nD) : Fin 2 → Nat :=
  let c1_i32_24 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v28 : BitVec 1 := Scalar.cmpi .sgt v2 c0_i32_9
  let v29 : BitVec 32 := Scalar.extui v28
  let c0_i32_10 : BitVec 32 := 0#32
  let v30 : BitVec 1 := Scalar.cmpi .slt v2 c0_i32_10
  let v31 : BitVec 32 := Scalar.extui v30
  let v32 : BitVec 32 := Scalar.subi v29 v31
  let c2_i32_8 : BitVec 32 := 2#32
  let c0_i32_11 : BitVec 32 := 0#32
  let v33 : BitVec 1 := Scalar.cmpi .sgt c2_i32_8 c0_i32_11
  let v34 : BitVec 32 := Scalar.extui v33
  let c0_i32_12 : BitVec 32 := 0#32
  let v35 : BitVec 1 := Scalar.cmpi .slt c2_i32_8 c0_i32_12
  let v36 : BitVec 32 := Scalar.extui v35
  let v37 : BitVec 32 := Scalar.subi v34 v36
  let v38 : BitVec 1 := Scalar.cmpi .ne v32 v37
  let v39 : BitVec 32 := Scalar.remsi v2 c2_i32_8
  let c0_i32_13 : BitVec 32 := 0#32
  let v40 : BitVec 1 := Scalar.cmpi .ne v39 c0_i32_13
  let v41 : BitVec 1 := Scalar.andi v38 v40
  let v27 : BitVec 32 := Scalar.divsi v2 c2_i32_8
  let c1_i32_14 : BitVec 32 := 1#32
  let v42 : BitVec 32 := Scalar.subi v27 c1_i32_14
  let v43 : BitVec 32 := Scalar.select v41 v42 v27
  let v58 : BitVec 32 := Scalar.subi c1_i32_24 v43
  let c256_i32_25 : BitVec 32 := 256#32
  let v59 : BitVec 32 := Scalar.muli v58 c256_i32_25
  let c0_i32_360 : BitVec 32 := 0#32
  ![v59.toNat, 0]
def k0_dev4 (d0 : Dev nD) : Nat :=
  let c0_i32_357 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_356 : BitVec 32 := 1#32
  let v580 : BitVec 32 := Scalar.muli v5 c1_i32_356
  let v581 : BitVec 32 := Scalar.addi c0_i32_357 v580
  v581.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 1 := Scalar.cmpi .eq v2 c1_i32_1
  let c2_i32 : BitVec 32 := 2#32
  let v7 : BitVec 1 := Scalar.cmpi .eq v2 c2_i32
  let v8 : BitVec 1 := Scalar.ori v6 v7
  let v9 : BitVec 32 := Scalar.extui v8
  let c256_i32 : BitVec 32 := 256#32
  let v54 : BitVec 32 := Scalar.muli v9 c256_i32
  let v598 : Index := Scalar.indexCast v54
  let c0_374 : Index := 0#32
  ![v598.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 1 := Scalar.cmpi .eq v2 c1_i32_1
  let c2_i32 : BitVec 32 := 2#32
  let v7 : BitVec 1 := Scalar.cmpi .eq v2 c2_i32
  let v8 : BitVec 1 := Scalar.ori v6 v7
  let v9 : BitVec 32 := Scalar.extui v8
  let c256_i32 : BitVec 32 := 256#32
  let v54 : BitVec 32 := Scalar.muli v9 c256_i32
  let c1_i32_378 : BitVec 32 := 1#32
  let c0_i32 : BitVec 32 := 0#32
  let v11 : BitVec 1 := Scalar.cmpi .sgt v2 c0_i32
  let v12 : BitVec 32 := Scalar.extui v11
  let c0_i32_3 : BitVec 32 := 0#32
  let v13 : BitVec 1 := Scalar.cmpi .slt v2 c0_i32_3
  let v14 : BitVec 32 := Scalar.extui v13
  let v15 : BitVec 32 := Scalar.subi v12 v14
  let c2_i32_2 : BitVec 32 := 2#32
  let c0_i32_4 : BitVec 32 := 0#32
  let v16 : BitVec 1 := Scalar.cmpi .sgt c2_i32_2 c0_i32_4
  let v17 : BitVec 32 := Scalar.extui v16
  let c0_i32_5 : BitVec 32 := 0#32
  let v18 : BitVec 1 := Scalar.cmpi .slt c2_i32_2 c0_i32_5
  let v19 : BitVec 32 := Scalar.extui v18
  let v20 : BitVec 32 := Scalar.subi v17 v19
  let v21 : BitVec 1 := Scalar.cmpi .ne v15 v20
  let v22 : BitVec 32 := Scalar.remsi v2 c2_i32_2
  let c0_i32_6 : BitVec 32 := 0#32
  let v23 : BitVec 1 := Scalar.cmpi .ne v22 c0_i32_6
  let v24 : BitVec 1 := Scalar.andi v21 v23
  let v10 : BitVec 32 := Scalar.divsi v2 c2_i32_2
  let c1_i32_7 : BitVec 32 := 1#32
  let v25 : BitVec 32 := Scalar.subi v10 c1_i32_7
  let v26 : BitVec 32 := Scalar.select v24 v25 v10
  let v606 : BitVec 32 := Scalar.subi c1_i32_378 v26
  let c128_i32_379 : BitVec 32 := 128#32
  let v607 : BitVec 32 := Scalar.muli v606 c128_i32_379
  let v608 : BitVec 32 := Scalar.addi v54 v607
  let c0_i32_386 : BitVec 32 := 0#32
  ![v608.toNat, 0]
def k0_dev5 (d0 : Dev nD) : Nat :=
  let c0_i32_383 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_382 : BitVec 32 := 1#32
  let v609 : BitVec 32 := Scalar.muli v5 c1_i32_382
  let v610 : BitVec 32 := Scalar.addi c0_i32_383 v609
  v610.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v28 : BitVec 1 := Scalar.cmpi .sgt v2 c0_i32_9
  let v29 : BitVec 32 := Scalar.extui v28
  let c0_i32_10 : BitVec 32 := 0#32
  let v30 : BitVec 1 := Scalar.cmpi .slt v2 c0_i32_10
  let v31 : BitVec 32 := Scalar.extui v30
  let v32 : BitVec 32 := Scalar.subi v29 v31
  let c2_i32_8 : BitVec 32 := 2#32
  let c0_i32_11 : BitVec 32 := 0#32
  let v33 : BitVec 1 := Scalar.cmpi .sgt c2_i32_8 c0_i32_11
  let v34 : BitVec 32 := Scalar.extui v33
  let c0_i32_12 : BitVec 32 := 0#32
  let v35 : BitVec 1 := Scalar.cmpi .slt c2_i32_8 c0_i32_12
  let v36 : BitVec 32 := Scalar.extui v35
  let v37 : BitVec 32 := Scalar.subi v34 v36
  let v38 : BitVec 1 := Scalar.cmpi .ne v32 v37
  let v39 : BitVec 32 := Scalar.remsi v2 c2_i32_8
  let c0_i32_13 : BitVec 32 := 0#32
  let v40 : BitVec 1 := Scalar.cmpi .ne v39 c0_i32_13
  let v41 : BitVec 1 := Scalar.andi v38 v40
  let v27 : BitVec 32 := Scalar.divsi v2 c2_i32_8
  let c1_i32_14 : BitVec 32 := 1#32
  let v42 : BitVec 32 := Scalar.subi v27 c1_i32_14
  let v43 : BitVec 32 := Scalar.select v41 v42 v27
  let c256_i32_23 : BitVec 32 := 256#32
  let v57 : BitVec 32 := Scalar.muli v43 c256_i32_23
  let v627 : Index := Scalar.indexCast v57
  let c0_400 : Index := 0#32
  ![v627.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v28 : BitVec 1 := Scalar.cmpi .sgt v2 c0_i32_9
  let v29 : BitVec 32 := Scalar.extui v28
  let c0_i32_10 : BitVec 32 := 0#32
  let v30 : BitVec 1 := Scalar.cmpi .slt v2 c0_i32_10
  let v31 : BitVec 32 := Scalar.extui v30
  let v32 : BitVec 32 := Scalar.subi v29 v31
  let c2_i32_8 : BitVec 32 := 2#32
  let c0_i32_11 : BitVec 32 := 0#32
  let v33 : BitVec 1 := Scalar.cmpi .sgt c2_i32_8 c0_i32_11
  let v34 : BitVec 32 := Scalar.extui v33
  let c0_i32_12 : BitVec 32 := 0#32
  let v35 : BitVec 1 := Scalar.cmpi .slt c2_i32_8 c0_i32_12
  let v36 : BitVec 32 := Scalar.extui v35
  let v37 : BitVec 32 := Scalar.subi v34 v36
  let v38 : BitVec 1 := Scalar.cmpi .ne v32 v37
  let v39 : BitVec 32 := Scalar.remsi v2 c2_i32_8
  let c0_i32_13 : BitVec 32 := 0#32
  let v40 : BitVec 1 := Scalar.cmpi .ne v39 c0_i32_13
  let v41 : BitVec 1 := Scalar.andi v38 v40
  let v27 : BitVec 32 := Scalar.divsi v2 c2_i32_8
  let c1_i32_14 : BitVec 32 := 1#32
  let v42 : BitVec 32 := Scalar.subi v27 c1_i32_14
  let v43 : BitVec 32 := Scalar.select v41 v42 v27
  let c256_i32_23 : BitVec 32 := 256#32
  let v57 : BitVec 32 := Scalar.muli v43 c256_i32_23
  let c1_i32_404 : BitVec 32 := 1#32
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi v2 v45
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let c0_i32_18 : BitVec 32 := 0#32
  let v47 : BitVec 1 := Scalar.cmpi .ne v46 c0_i32_18
  let v51 : BitVec 1 := Scalar.andi v50 v47
  let v52 : BitVec 32 := Scalar.addi v46 v45
  let v53 : BitVec 32 := Scalar.select v51 v52 v46
  let v635 : BitVec 32 := Scalar.subi c1_i32_404 v53
  let c128_i32_405 : BitVec 32 := 128#32
  let v636 : BitVec 32 := Scalar.muli v635 c128_i32_405
  let v637 : BitVec 32 := Scalar.addi v57 v636
  let c0_i32_412 : BitVec 32 := 0#32
  ![v637.toNat, 0]
def k0_dev6 (d0 : Dev nD) : Nat :=
  let c0_i32_409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_408 : BitVec 32 := 1#32
  let v638 : BitVec 32 := Scalar.muli v4 c1_i32_408
  let v639 : BitVec 32 := Scalar.addi c0_i32_409 v638
  v639.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 1 := Scalar.cmpi .eq v2 c1_i32_1
  let c2_i32 : BitVec 32 := 2#32
  let v7 : BitVec 1 := Scalar.cmpi .eq v2 c2_i32
  let v8 : BitVec 1 := Scalar.ori v6 v7
  let v9 : BitVec 32 := Scalar.extui v8
  let c256_i32 : BitVec 32 := 256#32
  let v54 : BitVec 32 := Scalar.muli v9 c256_i32
  let c0_i32 : BitVec 32 := 0#32
  let v11 : BitVec 1 := Scalar.cmpi .sgt v2 c0_i32
  let v12 : BitVec 32 := Scalar.extui v11
  let c0_i32_3 : BitVec 32 := 0#32
  let v13 : BitVec 1 := Scalar.cmpi .slt v2 c0_i32_3
  let v14 : BitVec 32 := Scalar.extui v13
  let v15 : BitVec 32 := Scalar.subi v12 v14
  let c2_i32_2 : BitVec 32 := 2#32
  let c0_i32_4 : BitVec 32 := 0#32
  let v16 : BitVec 1 := Scalar.cmpi .sgt c2_i32_2 c0_i32_4
  let v17 : BitVec 32 := Scalar.extui v16
  let c0_i32_5 : BitVec 32 := 0#32
  let v18 : BitVec 1 := Scalar.cmpi .slt c2_i32_2 c0_i32_5
  let v19 : BitVec 32 := Scalar.extui v18
  let v20 : BitVec 32 := Scalar.subi v17 v19
  let v21 : BitVec 1 := Scalar.cmpi .ne v15 v20
  let v22 : BitVec 32 := Scalar.remsi v2 c2_i32_2
  let c0_i32_6 : BitVec 32 := 0#32
  let v23 : BitVec 1 := Scalar.cmpi .ne v22 c0_i32_6
  let v24 : BitVec 1 := Scalar.andi v21 v23
  let v10 : BitVec 32 := Scalar.divsi v2 c2_i32_2
  let c1_i32_7 : BitVec 32 := 1#32
  let v25 : BitVec 32 := Scalar.subi v10 c1_i32_7
  let v26 : BitVec 32 := Scalar.select v24 v25 v10
  let c128_i32 : BitVec 32 := 128#32
  let v60 : BitVec 32 := Scalar.muli v26 c128_i32
  let v61 : BitVec 32 := Scalar.addi v54 v60
  let v656 : Index := Scalar.indexCast v61
  let c0_426 : Index := 0#32
  ![v656.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 1 := Scalar.cmpi .eq v2 c1_i32_1
  let c2_i32 : BitVec 32 := 2#32
  let v7 : BitVec 1 := Scalar.cmpi .eq v2 c2_i32
  let v8 : BitVec 1 := Scalar.ori v6 v7
  let v9 : BitVec 32 := Scalar.extui v8
  let c256_i32 : BitVec 32 := 256#32
  let v54 : BitVec 32 := Scalar.muli v9 c256_i32
  let c0_i32 : BitVec 32 := 0#32
  let v11 : BitVec 1 := Scalar.cmpi .sgt v2 c0_i32
  let v12 : BitVec 32 := Scalar.extui v11
  let c0_i32_3 : BitVec 32 := 0#32
  let v13 : BitVec 1 := Scalar.cmpi .slt v2 c0_i32_3
  let v14 : BitVec 32 := Scalar.extui v13
  let v15 : BitVec 32 := Scalar.subi v12 v14
  let c2_i32_2 : BitVec 32 := 2#32
  let c0_i32_4 : BitVec 32 := 0#32
  let v16 : BitVec 1 := Scalar.cmpi .sgt c2_i32_2 c0_i32_4
  let v17 : BitVec 32 := Scalar.extui v16
  let c0_i32_5 : BitVec 32 := 0#32
  let v18 : BitVec 1 := Scalar.cmpi .slt c2_i32_2 c0_i32_5
  let v19 : BitVec 32 := Scalar.extui v18
  let v20 : BitVec 32 := Scalar.subi v17 v19
  let v21 : BitVec 1 := Scalar.cmpi .ne v15 v20
  let v22 : BitVec 32 := Scalar.remsi v2 c2_i32_2
  let c0_i32_6 : BitVec 32 := 0#32
  let v23 : BitVec 1 := Scalar.cmpi .ne v22 c0_i32_6
  let v24 : BitVec 1 := Scalar.andi v21 v23
  let v10 : BitVec 32 := Scalar.divsi v2 c2_i32_2
  let c1_i32_7 : BitVec 32 := 1#32
  let v25 : BitVec 32 := Scalar.subi v10 c1_i32_7
  let v26 : BitVec 32 := Scalar.select v24 v25 v10
  let c128_i32 : BitVec 32 := 128#32
  let v60 : BitVec 32 := Scalar.muli v26 c128_i32
  let v61 : BitVec 32 := Scalar.addi v54 v60
  let c0_i32_434 : BitVec 32 := 0#32
  ![v61.toNat, 0]
def k0_dev7 (d0 : Dev nD) : Nat :=
  let c0_i32_433 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_432 : BitVec 32 := 1#32
  let v664 : BitVec 32 := Scalar.muli v5 c1_i32_432
  let v665 : BitVec 32 := Scalar.addi c0_i32_433 v664
  v665.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v28 : BitVec 1 := Scalar.cmpi .sgt v2 c0_i32_9
  let v29 : BitVec 32 := Scalar.extui v28
  let c0_i32_10 : BitVec 32 := 0#32
  let v30 : BitVec 1 := Scalar.cmpi .slt v2 c0_i32_10
  let v31 : BitVec 32 := Scalar.extui v30
  let v32 : BitVec 32 := Scalar.subi v29 v31
  let c2_i32_8 : BitVec 32 := 2#32
  let c0_i32_11 : BitVec 32 := 0#32
  let v33 : BitVec 1 := Scalar.cmpi .sgt c2_i32_8 c0_i32_11
  let v34 : BitVec 32 := Scalar.extui v33
  let c0_i32_12 : BitVec 32 := 0#32
  let v35 : BitVec 1 := Scalar.cmpi .slt c2_i32_8 c0_i32_12
  let v36 : BitVec 32 := Scalar.extui v35
  let v37 : BitVec 32 := Scalar.subi v34 v36
  let v38 : BitVec 1 := Scalar.cmpi .ne v32 v37
  let v39 : BitVec 32 := Scalar.remsi v2 c2_i32_8
  let c0_i32_13 : BitVec 32 := 0#32
  let v40 : BitVec 1 := Scalar.cmpi .ne v39 c0_i32_13
  let v41 : BitVec 1 := Scalar.andi v38 v40
  let v27 : BitVec 32 := Scalar.divsi v2 c2_i32_8
  let c1_i32_14 : BitVec 32 := 1#32
  let v42 : BitVec 32 := Scalar.subi v27 c1_i32_14
  let v43 : BitVec 32 := Scalar.select v41 v42 v27
  let c256_i32_23 : BitVec 32 := 256#32
  let v57 : BitVec 32 := Scalar.muli v43 c256_i32_23
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi v2 v45
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let c0_i32_18 : BitVec 32 := 0#32
  let v47 : BitVec 1 := Scalar.cmpi .ne v46 c0_i32_18
  let v51 : BitVec 1 := Scalar.andi v50 v47
  let v52 : BitVec 32 := Scalar.addi v46 v45
  let v53 : BitVec 32 := Scalar.select v51 v52 v46
  let c128_i32_26 : BitVec 32 := 128#32
  let v62 : BitVec 32 := Scalar.muli v53 c128_i32_26
  let v63 : BitVec 32 := Scalar.addi v57 v62
  let v682 : Index := Scalar.indexCast v63
  let c0_449 : Index := 0#32
  ![v682.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v28 : BitVec 1 := Scalar.cmpi .sgt v2 c0_i32_9
  let v29 : BitVec 32 := Scalar.extui v28
  let c0_i32_10 : BitVec 32 := 0#32
  let v30 : BitVec 1 := Scalar.cmpi .slt v2 c0_i32_10
  let v31 : BitVec 32 := Scalar.extui v30
  let v32 : BitVec 32 := Scalar.subi v29 v31
  let c2_i32_8 : BitVec 32 := 2#32
  let c0_i32_11 : BitVec 32 := 0#32
  let v33 : BitVec 1 := Scalar.cmpi .sgt c2_i32_8 c0_i32_11
  let v34 : BitVec 32 := Scalar.extui v33
  let c0_i32_12 : BitVec 32 := 0#32
  let v35 : BitVec 1 := Scalar.cmpi .slt c2_i32_8 c0_i32_12
  let v36 : BitVec 32 := Scalar.extui v35
  let v37 : BitVec 32 := Scalar.subi v34 v36
  let v38 : BitVec 1 := Scalar.cmpi .ne v32 v37
  let v39 : BitVec 32 := Scalar.remsi v2 c2_i32_8
  let c0_i32_13 : BitVec 32 := 0#32
  let v40 : BitVec 1 := Scalar.cmpi .ne v39 c0_i32_13
  let v41 : BitVec 1 := Scalar.andi v38 v40
  let v27 : BitVec 32 := Scalar.divsi v2 c2_i32_8
  let c1_i32_14 : BitVec 32 := 1#32
  let v42 : BitVec 32 := Scalar.subi v27 c1_i32_14
  let v43 : BitVec 32 := Scalar.select v41 v42 v27
  let c256_i32_23 : BitVec 32 := 256#32
  let v57 : BitVec 32 := Scalar.muli v43 c256_i32_23
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi v2 v45
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let c0_i32_18 : BitVec 32 := 0#32
  let v47 : BitVec 1 := Scalar.cmpi .ne v46 c0_i32_18
  let v51 : BitVec 1 := Scalar.andi v50 v47
  let v52 : BitVec 32 := Scalar.addi v46 v45
  let v53 : BitVec 32 := Scalar.select v51 v52 v46
  let c128_i32_26 : BitVec 32 := 128#32
  let v62 : BitVec 32 := Scalar.muli v53 c128_i32_26
  let v63 : BitVec 32 := Scalar.addi v57 v62
  let c0_i32_456 : BitVec 32 := 0#32
  ![v63.toNat, 0]
def k0_dev8 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_454 : BitVec 32 := 1#32
  let v690 : BitVec 32 := Scalar.muli v4 c1_i32_454
  let v691 : BitVec 32 := Scalar.addi c0_i32_455 v690
  v691.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 1 := Scalar.cmpi .eq v2 c1_i32_1
  let c2_i32 : BitVec 32 := 2#32
  let v7 : BitVec 1 := Scalar.cmpi .eq v2 c2_i32
  let v8 : BitVec 1 := Scalar.ori v6 v7
  let v9 : BitVec 32 := Scalar.extui v8
  let c256_i32 : BitVec 32 := 256#32
  let v54 : BitVec 32 := Scalar.muli v9 c256_i32
  let c0_i32_472 : BitVec 32 := 0#32
  ![v54.toNat, 0]
def k0_dev9 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_470 : BitVec 32 := 1#32
  let v708 : BitVec 32 := Scalar.muli v4 c1_i32_470
  let v709 : BitVec 32 := Scalar.addi c0_i32_471 v708
  v709.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v28 : BitVec 1 := Scalar.cmpi .sgt v2 c0_i32_9
  let v29 : BitVec 32 := Scalar.extui v28
  let c0_i32_10 : BitVec 32 := 0#32
  let v30 : BitVec 1 := Scalar.cmpi .slt v2 c0_i32_10
  let v31 : BitVec 32 := Scalar.extui v30
  let v32 : BitVec 32 := Scalar.subi v29 v31
  let c2_i32_8 : BitVec 32 := 2#32
  let c0_i32_11 : BitVec 32 := 0#32
  let v33 : BitVec 1 := Scalar.cmpi .sgt c2_i32_8 c0_i32_11
  let v34 : BitVec 32 := Scalar.extui v33
  let c0_i32_12 : BitVec 32 := 0#32
  let v35 : BitVec 1 := Scalar.cmpi .slt c2_i32_8 c0_i32_12
  let v36 : BitVec 32 := Scalar.extui v35
  let v37 : BitVec 32 := Scalar.subi v34 v36
  let v38 : BitVec 1 := Scalar.cmpi .ne v32 v37
  let v39 : BitVec 32 := Scalar.remsi v2 c2_i32_8
  let c0_i32_13 : BitVec 32 := 0#32
  let v40 : BitVec 1 := Scalar.cmpi .ne v39 c0_i32_13
  let v41 : BitVec 1 := Scalar.andi v38 v40
  let v27 : BitVec 32 := Scalar.divsi v2 c2_i32_8
  let c1_i32_14 : BitVec 32 := 1#32
  let v42 : BitVec 32 := Scalar.subi v27 c1_i32_14
  let v43 : BitVec 32 := Scalar.select v41 v42 v27
  let c256_i32_23 : BitVec 32 := 256#32
  let v57 : BitVec 32 := Scalar.muli v43 c256_i32_23
  let c0_i32_488 : BitVec 32 := 0#32
  ![v57.toNat, 0]
def k0_dev10 (d0 : Dev nD) : Nat :=
  let c0_i32_487 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_486 : BitVec 32 := 1#32
  let v726 : BitVec 32 := Scalar.muli v5 c1_i32_486
  let v727 : BitVec 32 := Scalar.addi c0_i32_487 v726
  v727.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S1x32x1024x1024, .f32⟩
  | .hbm, ⟨19, _⟩ => ⟨S_, .f32⟩
  | .hbm, ⟨20, _⟩ => ⟨S1x32x1024x1024, .f32⟩
  | .hbm, ⟨21, _⟩ => ⟨S1x32x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S1x32x1024x1024, .i1⟩
  | .hbm, ⟨26, _⟩ => ⟨S1x32x1024x1024, .f32⟩
  | .hbm, ⟨27, _⟩ => ⟨S1x32x1024x1024, .f32⟩
  | .hbm, ⟨28, _⟩ => ⟨S_, .f32⟩
  | .hbm, ⟨29, _⟩ => ⟨S1x32x1024, .f32⟩
  | .hbm, ⟨30, _⟩ => ⟨S1x32x1024x1, .f32⟩
  | .hbm, ⟨31, _⟩ => ⟨S1x32x1024x1024, .f32⟩
  | .hbm, ⟨32, _⟩ => ⟨S1x32x1024x1024, .f32⟩
  | .hbm, ⟨33, _⟩ => ⟨S1x32x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x32x1024, .f32⟩
  | .hbm, ⟨39, _⟩ => ⟨S1x32x1024x1, .f32⟩
  | .hbm, ⟨40, _⟩ => ⟨S_, .f32⟩
  | .hbm, ⟨41, _⟩ => ⟨S_, .f32⟩
  | .hbm, ⟨42, _⟩ => ⟨S1x32x1024x1, .i1⟩
  | .hbm, ⟨43, _⟩ => ⟨S1x32x1024x1, .f32⟩
  | .hbm, ⟨44, _⟩ => ⟨S1x32x1024x1, .f32⟩
  | .hbm, ⟨45, _⟩ => ⟨S1x32x1024x1024, .f32⟩
  | .hbm, ⟨46, _⟩ => ⟨S1x32x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x32x1024x1024, .i1⟩
  | .hbm, ⟨51, _⟩ => ⟨S1x32x1024x1024, .f32⟩
  | .hbm, ⟨52, _⟩ => ⟨S1x32x1024x1024, .f32⟩
  | .hbm, ⟨53, _⟩ => ⟨S1x32x128x1024, .f32⟩
  | .hbm, ⟨54, _⟩ => ⟨S1x1024x32x128, .f32⟩
  | .hbm, ⟨55, _⟩ => ⟨S1x1024x4096, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.K.Base.lean ====
/-
# The kernel's algebra, references and their points-to

The user algebra holds the pipeline's rounds, the rounds of this kernel's own semaphores (duty names `Bool`) and the counters of
the two local transfers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev 𝒱₀ : Variants := Variants.none

/-- The contents of device `c`'s buffer `b`. -/
abbrev Bf (F : FTy → Type) (c : Dev nD) (b : Ref sig .tc) : Type := Buf (Elt F) ((c : Thread nD τ).loc b)

/-- Device `c`'s buffer `b`, whole, at contents `f`. -/
abbrev pt (c : Dev nD) (b : Ref sig .tc) (f : Bf F c b) : sProp 𝕄 := (Memref.whole b).view.loc (c : Thread nD τ) ↦{fullShare} f

end Cert.Swa
-- ==== Proof.K.Mesh.lean ====
/-
# The four devices, the partners of a device, and the row blocks of the two halves

Device `c` exchanges with `p1 c` and with `p2 c`. Of the first row half it keeps the 256 rows from `ak c` after the first exchange and
sums the 128 rows from `qa c` in the second; of the second half, from `bk c` and `qb c`.
-/
module

public import proofs.«01_k».proof.Proof.K.Base

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Partners -/

def p1 (c : Dev nD) : Dev nD := ⟨(c.val + 1 + 2 * (c.val % 2)) % 4, Nat.mod_lt _ (by decide)⟩
def p2 (c : Dev nD) : Dev nD := ⟨(3 - c.val) % 4, Nat.mod_lt _ (by decide)⟩

theorem p1_p1 (c : Dev nD) : p1 (p1 c) = c := by revert c; decide
theorem p2_p2 (c : Dev nD) : p2 (p2 c) = c := by revert c; decide
theorem p1_p2 (c : Dev nD) : p1 (p2 c) = p2 (p1 c) := by revert c; decide
theorem p1_ne_p2 (c : Dev nD) : p1 c ≠ p2 c := by revert c; decide

def e1 : Dev nD ≃ Dev nD := ⟨p1, p1, p1_p1, p1_p1⟩
def e2 : Dev nD ≃ Dev nD := ⟨p2, p2, p2_p2, p2_p2⟩

theorem dev1_eq (c : Dev nD) : (⟨k0_dev1 c, k0_dev1_lt c⟩ : Dev nD) = p1 c := by revert c; decide +kernel
theorem dev3_eq (c : Dev nD) : (⟨k0_dev3 c, k0_dev3_lt c⟩ : Dev nD) = p1 c := by revert c; decide +kernel
theorem dev6_eq (c : Dev nD) : (⟨k0_dev6 c, k0_dev6_lt c⟩ : Dev nD) = p1 c := by revert c; decide +kernel
theorem dev8_eq (c : Dev nD) : (⟨k0_dev8 c, k0_dev8_lt c⟩ : Dev nD) = p1 c := by revert c; decide +kernel
theorem dev9_eq (c : Dev nD) : (⟨k0_dev9 c, k0_dev9_lt c⟩ : Dev nD) = p1 c := by revert c; decide +kernel
theorem dev2_eq (c : Dev nD) : (⟨k0_dev2 c, k0_dev2_lt c⟩ : Dev nD) = p2 c := by revert c; decide +kernel
theorem dev4_eq (c : Dev nD) : (⟨k0_dev4 c, k0_dev4_lt c⟩ : Dev nD) = p2 c := by revert c; decide +kernel
theorem dev5_eq (c : Dev nD) : (⟨k0_dev5 c, k0_dev5_lt c⟩ : Dev nD) = p2 c := by revert c; decide +kernel
theorem dev7_eq (c : Dev nD) : (⟨k0_dev7 c, k0_dev7_lt c⟩ : Dev nD) = p2 c := by revert c; decide +kernel
theorem dev10_eq (c : Dev nD) : (⟨k0_dev10 c, k0_dev10_lt c⟩ : Dev nD) = p2 c := by revert c; decide +kernel

/-! ## Row offsets -/

def ak (c : Dev nD) : ℕ := if c.val = 1 ∨ c.val = 2 then 256 else 0
def ak' (c : Dev nD) : ℕ := 256 - ak c
def bk (c : Dev nD) : ℕ := if 2 ≤ c.val then 256 else 0
def bk' (c : Dev nD) : ℕ := 256 - bk c
def qa (c : Dev nD) : ℕ := ak c + if 2 ≤ c.val then 128 else 0
def qa' (c : Dev nD) : ℕ := ak c + if 2 ≤ c.val then 0 else 128
def qb (c : Dev nD) : ℕ := bk c + 128 * (c.val % 2)
def qb' (c : Dev nD) : ℕ := bk c + (128 - 128 * (c.val % 2))

theorem off2_eq (c : Dev nD) : k0_off2 c = ![ak' c, 0] := by revert c; decide +kernel
theorem off3_eq (c : Dev nD) : k0_off3 c = ![bk' c, 0] := by revert c; decide +kernel
theorem off4_eq (c : Dev nD) : k0_off4 c = ![ak c, 0] := by revert c; decide +kernel
theorem off5_eq (c : Dev nD) : k0_off5 c = ![qa' c, 0] := by revert c; decide +kernel
theorem off6_eq (c : Dev nD) : k0_off6 c = ![bk c, 0] := by revert c; decide +kernel
theorem off7_eq (c : Dev nD) : k0_off7 c = ![qb' c, 0] := by revert c; decide +kernel
theorem off8_eq (c : Dev nD) : k0_off8 c = ![qa c, 0] := by revert c; decide +kernel
theorem off9_eq (c : Dev nD) : k0_off9 c = ![qa c, 0] := by revert c; decide +kernel
theorem off10_eq (c : Dev nD) : k0_off10 c = ![qb c, 0] := by revert c; decide +kernel
theorem off11_eq (c : Dev nD) : k0_off11 c = ![qb c, 0] := by revert c; decide +kernel
theorem off12_eq (c : Dev nD) : k0_off12 c = ![ak c, 0] := by revert c; decide +kernel
theorem off13_eq (c : Dev nD) : k0_off13 c = ![bk c, 0] := by revert c; decide +kernel

theorem ak'_p1 (c : Dev nD) : ak' (p1 c) = ak c := by revert c; decide
theorem bk'_p2 (c : Dev nD) : bk' (p2 c) = bk c := by revert c; decide
theorem qa'_p2 (c : Dev nD) : qa' (p2 c) = qa c := by revert c; decide
theorem qa_p2 (c : Dev nD) : qa (p2 c) = qa' c := by revert c; decide
theorem qb'_p1 (c : Dev nD) : qb' (p1 c) = qb c := by revert c; decide
theorem qb_p1 (c : Dev nD) : qb (p1 c) = qb' c := by revert c; decide
theorem ak_p1 (c : Dev nD) : ak (p1 c) = ak' c := by revert c; decide
theorem bk_p2 (c : Dev nD) : bk (p2 c) = bk' c := by revert c; decide

theorem ak_cases (c : Dev nD) : (ak c = 0 ∧ ak' c = 256) ∨ (ak c = 256 ∧ ak' c = 0) := by revert c; decide
theorem bk_cases (c : Dev nD) : (bk c = 0 ∧ bk' c = 256) ∨ (bk c = 256 ∧ bk' c = 0) := by revert c; decide
theorem qa_cases (c : Dev nD) : (qa c = ak c ∧ qa' c = ak c + 128) ∨ (qa c = ak c + 128 ∧ qa' c = ak c) := by revert c; decide
theorem qb_cases (c : Dev nD) : (qb c = bk c ∧ qb' c = bk c + 128) ∨ (qb c = bk c + 128 ∧ qb' c = bk c) := by revert c; decide

/-! ## Row sets -/

/-- The rows `o … o + n` of a 512-row buffer. -/
def rows (o n : ℕ) : Finset S512x1024.Idx := Finset.univ.filter fun i => o ≤ (i 0).val ∧ (i 0).val < o + n
/-- The rows `o … o + n` of the 256-row buffer. -/
def rowsT (o n : ℕ) : Finset S256x1024.Idx := Finset.univ.filter fun i => o ≤ (i 0).val ∧ (i 0).val < o + n

theorem mem_rows {o n : ℕ} {i : S512x1024.Idx} : i ∈ rows o n ↔ o ≤ (i 0).val ∧ (i 0).val < o + n := by simp [rows]
theorem mem_rowsT {o n : ℕ} {i : S256x1024.Idx} : i ∈ rowsT o n ↔ o ≤ (i 0).val ∧ (i 0).val < o + n := by simp [rowsT]

theorem lt512 (i : S512x1024.Idx) : (i 0).val < 512 := (i 0).isLt
theorem lt256 (i : S256x1024.Idx) : (i 0).val < 256 := (i 0).isLt

theorem set_rows (o : Fin 2 → ℕ) (n k : ℕ) (ho : o = ![k, 0]) (h : ∀ a, o a + (![n, 1024] : Fin 2 → ℕ) a ≤ S512x1024.size a) :
    (Rect.unit (s := S512x1024) o ![n, 1024] h).set = rows k n := by
  subst ho
  ext i
  rw [Rect.mem_set_unit, mem_rows]
  constructor
  · intro H; exact H 0
  · intro H a
    match a with
    | 0 => exact H
    | 1 => exact ⟨Nat.zero_le _, by show (i 1).val < 0 + 1024; have := (i 1).isLt; rw [Nat.zero_add]; exact this⟩
theorem set_rowsT (o : Fin 2 → ℕ) (n k : ℕ) (ho : o = ![k, 0]) (h : ∀ a, o a + (![n, 1024] : Fin 2 → ℕ) a ≤ S256x1024.size a) :
    (Rect.unit (s := S256x1024) o ![n, 1024] h).set = rowsT k n := by
  subst ho
  ext i
  rw [Rect.mem_set_unit, mem_rowsT]
  constructor
  · intro H; exact H 0
  · intro H a
    match a with
    | 0 => exact H
    | 1 => exact ⟨Nat.zero_le _, by show (i 1).val < 0 + 1024; have := (i 1).isLt; rw [Nat.zero_add]; exact this⟩

theorem rows_all : rows 0 512 = Finset.univ := by ext i; have := lt512 i; simp only [mem_rows, Finset.mem_univ, iff_true]; omega
theorem rows_union_a (c : Dev nD) : rows (ak c) 256 ∪ rows (ak' c) 256 = Finset.univ := by
  ext i; have := lt512 i; have := ak_cases c; simp only [Finset.mem_union, mem_rows, Finset.mem_univ, iff_true]; omega
theorem rows_union_b (c : Dev nD) : rows (bk c) 256 ∪ rows (bk' c) 256 = Finset.univ := by
  ext i; have := lt512 i; have := bk_cases c; simp only [Finset.mem_union, mem_rows, Finset.mem_univ, iff_true]; omega
theorem rows_disj_a (c : Dev nD) : Disjoint (rows (ak c) 256) (rows (ak' c) 256) := by
  rw [Finset.disjoint_left]; intro i h h'; have := ak_cases c; rw [mem_rows] at h h'; omega
theorem rows_disj_b (c : Dev nD) : Disjoint (rows (bk c) 256) (rows (bk' c) 256) := by
  rw [Finset.disjoint_left]; intro i h h'; have := bk_cases c; rw [mem_rows] at h h'; omega
theorem rows_union_qa (c : Dev nD) : rows (qa c) 128 ∪ rows (qa' c) 128 = rows (ak c) 256 := by
  ext i; have := qa_cases c; simp only [Finset.mem_union, mem_rows]; omega
theorem rows_union_qb (c : Dev nD) : rows (qb c) 128 ∪ rows (qb' c) 128 = rows (bk c) 256 := by
  ext i; have := qb_cases c; simp only [Finset.mem_union, mem_rows]; omega
theorem rows_disj_qa (c : Dev nD) : Disjoint (rows (qa c) 128) (rows (qa' c) 128) := by
  rw [Finset.disjoint_left]; intro i h h'; have := qa_cases c; rw [mem_rows] at h h'; omega
theorem rows_disj_qb (c : Dev nD) : Disjoint (rows (qb c) 128) (rows (qb' c) 128) := by
  rw [Finset.disjoint_left]; intro i h h'; have := qb_cases c; rw [mem_rows] at h h'; omega
theorem rows_union_cm : rows 0 256 ∪ rows 256 256 = Finset.univ := by
  ext i; have := lt512 i; simp only [Finset.mem_union, mem_rows, Finset.mem_univ, iff_true]; omega
theorem rows_disj_cm : Disjoint (rows 0 256) (rows 256 256) := by
  rw [Finset.disjoint_left]; intro i h h'; rw [mem_rows] at h h'; omega
theorem rows_union_tm : rowsT 0 128 ∪ rowsT 128 128 = Finset.univ := by
  ext i; have := lt256 i; simp only [Finset.mem_union, mem_rowsT, Finset.mem_univ, iff_true]; omega
theorem rows_disj_tm : Disjoint (rowsT 0 128) (rowsT 128 128) := by
  rw [Finset.disjoint_left]; intro i h h'; rw [mem_rowsT] at h h'; omega

/-! ## The memrefs of the copies, and their element sets -/

abbrev m2 (c : Dev nD) : Memref sig .tc .vmem S256x1024 .bf16 := (Memref.whole cc0_scratch7).slice (Rect.unit (s := S512x1024) (k0_off2 c) S256x1024.size (k0_off2_inb c)) (fun _ => rfl)
abbrev m3 (c : Dev nD) : Memref sig .tc .vmem S256x1024 .bf16 := (Memref.whole cc0_scratch8).slice (Rect.unit (s := S512x1024) (k0_off3 c) S256x1024.size (k0_off3_inb c)) (fun _ => rfl)
abbrev m5 (c : Dev nD) : Memref sig .tc .vmem S128x1024 .bf16 := (Memref.whole cc0_scratch7).slice (Rect.unit (s := S512x1024) (k0_off5 c) S128x1024.size (k0_off5_inb c)) (fun _ => rfl)
abbrev m7 (c : Dev nD) : Memref sig .tc .vmem S128x1024 .bf16 := (Memref.whole cc0_scratch8).slice (Rect.unit (s := S512x1024) (k0_off7 c) S128x1024.size (k0_off7_inb c)) (fun _ => rfl)
abbrev m9 (c : Dev nD) : Memref sig .tc .vmem S128x1024 .bf16 := (Memref.whole cc0_scratch7).slice (Rect.unit (s := S512x1024) (k0_off9 c) S128x1024.size (k0_off9_inb c)) (fun _ => rfl)
abbrev m11 (c : Dev nD) : Memref sig .tc .vmem S128x1024 .bf16 := (Memref.whole cc0_scratch8).slice (Rect.unit (s := S512x1024) (k0_off11 c) S128x1024.size (k0_off11_inb c)) (fun _ => rfl)
abbrev m12 (c : Dev nD) : Memref sig .tc .vmem S256x1024 .bf16 := (Memref.whole cc0_scratch7).slice (Rect.unit (s := S512x1024) (k0_off12 c) S256x1024.size (k0_off12_inb c)) (fun _ => rfl)
abbrev m13 (c : Dev nD) : Memref sig .tc .vmem S256x1024 .bf16 := (Memref.whole cc0_scratch8).slice (Rect.unit (s := S512x1024) (k0_off13 c) S256x1024.size (k0_off13_inb c)) (fun _ => rfl)
abbrev mc0 : Memref sig .tc .vmem S256x1024 .bf16 := (Memref.whole cc0_scratch9).slice (Rect.unit (s := S512x1024) ![0, 0] S256x1024.size inb_S512x1024_S256x1024_0_0) (fun _ => rfl)
abbrev mc1 : Memref sig .tc .vmem S256x1024 .bf16 := (Memref.whole cc0_scratch9).slice (Rect.unit (s := S512x1024) ![256, 0] S256x1024.size inb_S512x1024_S256x1024_256_0) (fun _ => rfl)
abbrev mt0 : Memref sig .tc .vmem S128x1024 .bf16 := (Memref.whole cc0_scratch10).slice (Rect.unit (s := S256x1024) ![0, 0] S128x1024.size inb_S256x1024_S128x1024_0_0) (fun _ => rfl)
abbrev mt1 : Memref sig .tc .vmem S128x1024 .bf16 := (Memref.whole cc0_scratch10).slice (Rect.unit (s := S256x1024) ![128, 0] S128x1024.size inb_S256x1024_S128x1024_128_0) (fun _ => rfl)

theorem m2_set (c : Dev nD) : (m2 c).view.set = rows (ak' c) 256 := (View.set_slice_whole _ _).trans (set_rows _ _ _ (off2_eq c) _)
theorem m3_set (c : Dev nD) : (m3 c).view.set = rows (bk' c) 256 := (View.set_slice_whole _ _).trans (set_rows _ _ _ (off3_eq c) _)
theorem m5_set (c : Dev nD) : (m5 c).view.set = rows (qa' c) 128 := (View.set_slice_whole _ _).trans (set_rows _ _ _ (off5_eq c) _)
theorem m7_set (c : Dev nD) : (m7 c).view.set = rows (qb' c) 128 := (View.set_slice_whole _ _).trans (set_rows _ _ _ (off7_eq c) _)
theorem m9_set (c : Dev nD) : (m9 c).view.set = rows (qa c) 128 := (View.set_slice_whole _ _).trans (set_rows _ _ _ (off9_eq c) _)
theorem m11_set (c : Dev nD) : (m11 c).view.set = rows (qb c) 128 := (View.set_slice_whole _ _).trans (set_rows _ _ _ (off11_eq c) _)
theorem m12_set (c : Dev nD) : (m12 c).view.set = rows (ak c) 256 := (View.set_slice_whole _ _).trans (set_rows _ _ _ (off12_eq c) _)
theorem m13_set (c : Dev nD) : (m13 c).view.set = rows (bk c) 256 := (View.set_slice_whole _ _).trans (set_rows _ _ _ (off13_eq c) _)
theorem mc0_set : mc0.view.set = rows 0 256 := (View.set_slice_whole _ _).trans (set_rows _ _ _ rfl _)
theorem mc1_set : mc1.view.set = rows 256 256 := (View.set_slice_whole _ _).trans (set_rows _ _ _ rfl _)
theorem mt0_set : mt0.view.set = rowsT 0 128 := (View.set_slice_whole _ _).trans (set_rowsT _ _ _ rfl _)
theorem mt1_set : mt1.view.set = rowsT 128 128 := (View.set_slice_whole _ _).trans (set_rowsT _ _ _ rfl _)

/-! ## The four exchanged buffers, by rows -/

/-- Rows `S` of device `c`'s first half, second half, first landing buffer, second landing buffer. -/
abbrev arA (c : Dev nD) (S : Finset S512x1024.Idx) (f : Vec F S512x1024 .bf16) : sProp 𝕄 := (Memref.whole cc0_scratch7).view.loc (c : Thread nD τ) ↦[S]{fullShare} f
abbrev arB (c : Dev nD) (S : Finset S512x1024.Idx) (f : Vec F S512x1024 .bf16) : sProp 𝕄 := (Memref.whole cc0_scratch8).view.loc (c : Thread nD τ) ↦[S]{fullShare} f
abbrev cm (c : Dev nD) (S : Finset S512x1024.Idx) (f : Vec F S512x1024 .bf16) : sProp 𝕄 := (Memref.whole cc0_scratch9).view.loc (c : Thread nD τ) ↦[S]{fullShare} f
abbrev tm (c : Dev nD) (S : Finset S256x1024.Idx) (f : Vec F S256x1024 .bf16) : sProp 𝕄 := (Memref.whole cc0_scratch10).view.loc (c : Thread nD τ) ↦[S]{fullShare} f

/-- Reading two 256-row blocks at equal offsets is the same. -/
theorem readA_congr {n : ℕ} (o o' : Fin 2 → ℕ) (h : ∀ a, o a + (![n, 1024] : Fin 2 → ℕ) a ≤ S512x1024.size a) (h' : ∀ a, o' a + (![n, 1024] : Fin 2 → ℕ) a ≤ S512x1024.size a)
    (e : o = o') (f : Vec F S512x1024 .bf16) :
    ((Memref.whole cc0_scratch7).access (Rect.unit (s := S512x1024) o ![n, 1024] h)).read (Elt F) f = ((Memref.whole cc0_scratch7).access (Rect.unit (s := S512x1024) o' ![n, 1024] h')).read (Elt F) f := by
  subst e; rfl
theorem readB_congr {n : ℕ} (o o' : Fin 2 → ℕ) (h : ∀ a, o a + (![n, 1024] : Fin 2 → ℕ) a ≤ S512x1024.size a) (h' : ∀ a, o' a + (![n, 1024] : Fin 2 → ℕ) a ≤ S512x1024.size a)
    (e : o = o') (f : Vec F S512x1024 .bf16) :
    ((Memref.whole cc0_scratch8).access (Rect.unit (s := S512x1024) o ![n, 1024] h)).read (Elt F) f = ((Memref.whole cc0_scratch8).access (Rect.unit (s := S512x1024) o' ![n, 1024] h')).read (Elt F) f := by
  subst e; rfl

/-- A block overwritten by the sum of two buffers read at it holds their sum. -/
theorem write_addA (r : Rect S512x1024) (f g : Vec F S512x1024 .bf16) (w : r.shape.Idx → Elt F .bf16)
    (hw : ∀ x, w x = addf f g (r.emb x)) {i : S512x1024.Idx} (hi : i ∈ r.set) :
    ((Memref.whole cc0_scratch7).access r).write (Elt F) f w Finset.univ i = addf f g i := by
  obtain ⟨x, -, rfl⟩ := Finset.mem_map.mp ((Rect.map_emb_univ r).symm ▸ hi)
  exact (View.write_emb_of_mem (v := (Memref.whole cc0_scratch7).access r) f w (Finset.mem_univ x)).trans (hw x)
theorem write_addB (r : Rect S512x1024) (f g : Vec F S512x1024 .bf16) (w : r.shape.Idx → Elt F .bf16)
    (hw : ∀ x, w x = addf f g (r.emb x)) {i : S512x1024.Idx} (hi : i ∈ r.set) :
    ((Memref.whole cc0_scratch8).access r).write (Elt F) f w Finset.univ i = addf f g i := by
  obtain ⟨x, -, rfl⟩ := Finset.mem_map.mp ((Rect.map_emb_univ r).symm ▸ hi)
  exact (View.write_emb_of_mem (v := (Memref.whole cc0_scratch8).access r) f w (Finset.mem_univ x)).trans (hw x)

end Cert.Swa
-- ==== Proof.K.Sched.lean ====
/-
# The schedule: what every signal and copy hands over, and what a device owes

Every cell has one round. A device's barrier cell expects a unit from each partner; the first partner hands over the halves of its
landing buffers that copies 0 and 3 fill, the second those of copies 1 and 2. Copy `j` of device `c` goes to `peer j c`. Copies 0 to 3
land in the landing buffers and bring the sender's source rows with them, which the receiver overwrites by copies 6, 7, 4 and 5;
copies 4 to 7 land in the receiver's own halves and give the source back on the send cell.
-/
module

public import proofs.«01_k».proof.Proof.K.Mesh

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The user algebra's parts -/

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ## The cells -/

/-- The runtime's barrier semaphore, and the send and receive semaphores of the eight copies. -/
abbrev barS : Sem sig := (SemArray.scalar (sig.barrier 0 rfl) : Sems sig S_).sem
def sS (j : Fin 8) : DmaSem sig := ⟨4 + j.val, by have := j.isLt; show 4 + j.val < 22; omega⟩
def rS (j : Fin 8) : DmaSem sig := ⟨12 + j.val, by have := j.isLt; show 12 + j.val < 22; omega⟩

theorem send0 : ((cc0_scratch11.slice (Rect.unit (s := S8) ![0] S1.size inb_S8_S1_0)).squeeze S_ squeezes_S1_S_).sem = sS 0 := rfl
theorem recv0 : ((cc0_scratch12.slice (Rect.unit (s := S8) ![0] S1.size inb_S8_S1_0)).squeeze S_ squeezes_S1_S_).sem = rS 0 := rfl
theorem send1 : ((cc0_scratch11.slice (Rect.unit (s := S8) ![1] S1.size inb_S8_S1_1)).squeeze S_ squeezes_S1_S_).sem = sS 1 := rfl
theorem recv1 : ((cc0_scratch12.slice (Rect.unit (s := S8) ![1] S1.size inb_S8_S1_1)).squeeze S_ squeezes_S1_S_).sem = rS 1 := rfl
theorem send2 : ((cc0_scratch11.slice (Rect.unit (s := S8) ![2] S1.size inb_S8_S1_2)).squeeze S_ squeezes_S1_S_).sem = sS 2 := rfl
theorem recv2 : ((cc0_scratch12.slice (Rect.unit (s := S8) ![2] S1.size inb_S8_S1_2)).squeeze S_ squeezes_S1_S_).sem = rS 2 := rfl
theorem send3 : ((cc0_scratch11.slice (Rect.unit (s := S8) ![3] S1.size inb_S8_S1_3)).squeeze S_ squeezes_S1_S_).sem = sS 3 := rfl
theorem recv3 : ((cc0_scratch12.slice (Rect.unit (s := S8) ![3] S1.size inb_S8_S1_3)).squeeze S_ squeezes_S1_S_).sem = rS 3 := rfl
theorem send4 : ((cc0_scratch11.slice (Rect.unit (s := S8) ![4] S1.size inb_S8_S1_4)).squeeze S_ squeezes_S1_S_).sem = sS 4 := rfl
theorem recv4 : ((cc0_scratch12.slice (Rect.unit (s := S8) ![4] S1.size inb_S8_S1_4)).squeeze S_ squeezes_S1_S_).sem = rS 4 := rfl
theorem send5 : ((cc0_scratch11.slice (Rect.unit (s := S8) ![5] S1.size inb_S8_S1_5)).squeeze S_ squeezes_S1_S_).sem = sS 5 := rfl
theorem recv5 : ((cc0_scratch12.slice (Rect.unit (s := S8) ![5] S1.size inb_S8_S1_5)).squeeze S_ squeezes_S1_S_).sem = rS 5 := rfl
theorem send6 : ((cc0_scratch11.slice (Rect.unit (s := S8) ![6] S1.size inb_S8_S1_6)).squeeze S_ squeezes_S1_S_).sem = sS 6 := rfl
theorem recv6 : ((cc0_scratch12.slice (Rect.unit (s := S8) ![6] S1.size inb_S8_S1_6)).squeeze S_ squeezes_S1_S_).sem = rS 6 := rfl
theorem send7 : ((cc0_scratch11.slice (Rect.unit (s := S8) ![7] S1.size inb_S8_S1_7)).squeeze S_ squeezes_S1_S_).sem = sS 7 := rfl
theorem recv7 : ((cc0_scratch12.slice (Rect.unit (s := S8) ![7] S1.size inb_S8_S1_7)).squeeze S_ squeezes_S1_S_).sem = rS 7 := rfl

abbrev barCell (c : Dev nD) : GSem nD τ sig := ((c : Thread nD τ), .reg barS)
abbrev sCell (c : Dev nD) (j : Fin 8) : GSem nD τ sig := ((c : Thread nD τ), .dma (sS j))
abbrev rCell (c : Dev nD) (j : Fin 8) : GSem nD τ sig := ((c : Thread nD τ), .dma (rS j))

/-- The partner copy `j` goes to, and comes from. -/
def peer (j : Fin 8) (c : Dev nD) : Dev nD := if j = 0 ∨ j = 3 ∨ j = 5 ∨ j = 6 then p1 c else p2 c
theorem peer_peer (j : Fin 8) (c : Dev nD) : peer j (peer j c) = c := by revert j c; decide
def ep (j : Fin 8) : Dev nD ≃ Dev nD := ⟨peer j, peer j, peer_peer j, peer_peer j⟩

abbrev N256 : ℕ := mc0.view.dmaCredit
abbrev N128 : ℕ := mt0.view.dmaCredit
theorem N256_pos : 0 < N256 := View.dmaCredit_pos _ (by decide)
theorem N128_pos : 0 < N128 := View.dmaCredit_pos _ (by decide)
/-- The units copy `j` completes with. -/
def amt (j : Fin 8) : ℕ := if j = 0 ∨ j = 1 ∨ j = 6 ∨ j = 7 then N256 else N128
theorem amt_pos (j : Fin 8) : 0 < amt j := by unfold amt; split; exacts [N256_pos, N128_pos]

/-! ## The contents -/

section Contents
variable (YA YB : Dev nD → Vec F S512x1024 .bf16)

/-- The sum of two devices' partial products, then of four. -/
def a1 (c : Dev nD) : Vec F S512x1024 .bf16 := addf (YA c) (YA (p1 c))
def b1 (c : Dev nD) : Vec F S512x1024 .bf16 := addf (YB c) (YB (p2 c))
def a2 (c : Dev nD) : Vec F S512x1024 .bf16 := addf (a1 YA c) (a1 YA (p2 c))
def b2 (c : Dev nD) : Vec F S512x1024 .bf16 := addf (b1 YB c) (b1 YB (p1 c))
/-- The kept rows once the partner's block of them has come, -/
def kA (c : Dev nD) : Vec F S512x1024 .bf16 := (rows (qa' c) 128).piecewise (a2 YA (p2 c)) (a2 YA c)
def kB (c : Dev nD) : Vec F S512x1024 .bf16 := (rows (qb' c) 128).piecewise (b2 YB (p1 c)) (b2 YB c)
/-- and the whole half. -/
def fA (c : Dev nD) : Vec F S512x1024 .bf16 := (rows (ak' c) 256).piecewise (kA YA (p1 c)) (kA YA c)
def fB (c : Dev nD) : Vec F S512x1024 .bf16 := (rows (bk' c) 256).piecewise (kB YB (p2 c)) (kB YB c)

/-! ## The payloads -/

def barPayF (c : Dev nD) : sProp 𝕄 := iprop((∃ f, cm (p1 c) (rows 0 256) f) ∗ ∃ f, tm (p1 c) (rowsT 128 128) f)
def barPayT (c : Dev nD) : sProp 𝕄 := iprop((∃ f, cm (p2 c) (rows 256 256) f) ∗ ∃ f, tm (p2 c) (rowsT 0 128) f)

/-- What a send cell gives back. -/
def sPay (c : Dev nD) (j : Fin 8) : sProp 𝕄 :=
  if j = 4 then arA c (rows (qa c) 128) (a2 YA c) else if j = 5 then arB c (rows (qb c) 128) (b2 YB c)
  else if j = 6 then arA c (rows (ak c) 256) (kA YA c) else if j = 7 then arB c (rows (bk c) 256) (kB YB c) else iprop(emp)

def in0 (c : Dev nD) : sProp 𝕄 := iprop(∃ f, cm c (rows 0 256) (mc0.view.write (Elt F) f ((m2 (p1 c)).view.read (Elt F) (YA (p1 c))) Finset.univ))
def land0 (c : Dev nD) : sProp 𝕄 := iprop(in0 YA c ∗ arA (p1 c) (rows (ak' (p1 c)) 256) (YA (p1 c)))
def in1 (c : Dev nD) : sProp 𝕄 := iprop(∃ f, cm c (rows 256 256) (mc1.view.write (Elt F) f ((m3 (p2 c)).view.read (Elt F) (YB (p2 c))) Finset.univ))
def land1 (c : Dev nD) : sProp 𝕄 := iprop(in1 YB c ∗ arB (p2 c) (rows (bk' (p2 c)) 256) (YB (p2 c)))
def in2 (c : Dev nD) : sProp 𝕄 := iprop(∃ f, tm c (rowsT 0 128) (mt0.view.write (Elt F) f ((m5 (p2 c)).view.read (Elt F) (a1 YA (p2 c))) Finset.univ))
def land2 (c : Dev nD) : sProp 𝕄 := iprop(in2 YA c ∗ arA (p2 c) (rows (qa' (p2 c)) 128) (a1 YA (p2 c)))
def in3 (c : Dev nD) : sProp 𝕄 := iprop(∃ f, tm c (rowsT 128 128) (mt1.view.write (Elt F) f ((m7 (p1 c)).view.read (Elt F) (b1 YB (p1 c))) Finset.univ))
def land3 (c : Dev nD) : sProp 𝕄 := iprop(in3 YB c ∗ arB (p1 c) (rows (qb' (p1 c)) 128) (b1 YB (p1 c)))

/-- What a receive cell hands its device. -/
def rPay (c : Dev nD) (j : Fin 8) : sProp 𝕄 :=
  if j = 0 then land0 YA c else if j = 1 then land1 YB c else if j = 2 then land2 YA c else if j = 3 then land3 YB c
  else if j = 4 then arA c (rows (qa (p2 c)) 128) (a2 YA (p2 c)) else if j = 5 then arB c (rows (qb (p1 c)) 128) (b2 YB (p1 c))
  else if j = 6 then arA c (rows (ak (p1 c)) 256) (kA YA (p1 c)) else arB c (rows (bk (p2 c)) 256) (kB YB (p2 c))

instance barPayF_storable (c : Dev nD) : BI.Storable (upEmb : UEmb _ 𝕄) (barPayF (F := F) c) := by unfold barPayF; infer_instance
instance barPayT_storable (c : Dev nD) : BI.Storable (upEmb : UEmb _ 𝕄) (barPayT (F := F) c) := by unfold barPayT; infer_instance
instance sPay_storable (c : Dev nD) (j) : BI.Storable (upEmb : UEmb _ 𝕄) (sPay YA YB c j) := by
  unfold sPay; (repeat' split) <;> infer_instance
omit [FloatOps F] in
theorem cm_storable (c : Dev nD) (S) (g : Vec F S512x1024 .bf16 → Vec F S512x1024 .bf16) : BI.Storable (upEmb : UEmb _ 𝕄) (iprop(∃ f, cm c S (g f))) := inferInstance
omit [FloatOps F] in
theorem tm_storable (c : Dev nD) (S) (g : Vec F S256x1024 .bf16 → Vec F S256x1024 .bf16) : BI.Storable (upEmb : UEmb _ 𝕄) (iprop(∃ f, tm c S (g f))) := inferInstance
instance in0_storable (c : Dev nD) : BI.Storable (upEmb : UEmb _ 𝕄) (in0 YA c) := cm_storable c _ _
instance in1_storable (c : Dev nD) : BI.Storable (upEmb : UEmb _ 𝕄) (in1 YB c) := cm_storable c _ _
instance in2_storable (c : Dev nD) : BI.Storable (upEmb : UEmb _ 𝕄) (in2 YA c) := tm_storable c _ _
instance in3_storable (c : Dev nD) : BI.Storable (upEmb : UEmb _ 𝕄) (in3 YB c) := tm_storable c _ _
instance rPay_storable (c : Dev nD) (j) : BI.Storable (upEmb : UEmb _ 𝕄) (rPay YA YB c j) := by
  unfold rPay land0 land1 land2 land3; (repeat' split) <;> infer_instance

/-! ## The schedule -/

/-- Which copy a DMA semaphore of the kernel's belongs to. -/
def copyOf (q : DmaSem sig) : Fin 8 := ⟨(q.val + 4) % 8, Nat.mod_lt _ (by decide)⟩
theorem copyOf_s (j : Fin 8) : copyOf (sS j) = j := by revert j; decide
theorem copyOf_r (j : Fin 8) : copyOf (rS j) = j := by revert j; decide
abbrev IsS (q : DmaSem sig) : Prop := 4 ≤ q.val ∧ q.val < 12
abbrev IsR (q : DmaSem sig) : Prop := 12 ≤ q.val ∧ q.val < 20
theorem isS_s (j : Fin 8) : IsS (sS j) := by revert j; decide
theorem isR_r (j : Fin 8) : IsR (rS j) := by revert j; decide
theorem not_isS_r (j : Fin 8) : ¬ IsS (rS j) := by revert j; decide

def dutiesOf : SemLoc sig → Finset Bool
  | .reg q => if q = barS then Finset.univ else ∅
  | .dma q => if IsS q ∨ IsR q then {false} else ∅
def amountOf : SemLoc sig → ℕ
  | .reg _ => 1
  | .dma q => amt (copyOf q)
def payOf (c : Dev nD) (d : Bool) : SemLoc sig → sProp 𝕄
  | .reg _ => if d then barPayT c else barPayF c
  | .dma q => if IsS q then sPay YA YB c (copyOf q) else rPay YA YB c (copyOf q)

def Rd : Rounds.Schedule (GSem nD τ sig) Bool 𝕄 where
  duties g r := if r = 0 ∧ g.1.2 = .tc then dutiesOf g.2 else ∅
  unitless _ := False
  amount g _ _ := amountOf g.2
  payload g _ d := payOf YA YB g.1.1 d g.2
  amount_pos g _ _ _ := by
    obtain ⟨t, sm⟩ := g
    match sm with
    | .reg _ => exact Nat.one_pos
    | .dma q => exact amt_pos _

instance Rd_payload_storable (g : GSem nD τ sig) (r : ℕ) (d : Bool) : BI.Storable (upEmb : UEmb _ 𝕄) ((Rd YA YB).payload g r d) := by
  show BI.Storable upEmb (payOf YA YB g.1.1 d g.2)
  obtain ⟨t, sm⟩ := g
  match sm with
  | .reg _ => simp only [payOf]; split <;> infer_instance
  | .dma q => simp only [payOf]; split <;> infer_instance

section Sched
variable (c : Dev nD) (j : Fin 8)

theorem duties_bar : (Rd YA YB).duties (barCell c) 0 = Finset.univ := by
  show (if (0 : ℕ) = 0 ∧ (c : Thread nD τ).2 = .tc then dutiesOf (.reg barS) else ∅) = _
  rw [if_pos ⟨rfl, rfl⟩]; decide
theorem duties_s : (Rd YA YB).duties (sCell c j) 0 = {false} := by
  show (if (0 : ℕ) = 0 ∧ (c : Thread nD τ).2 = .tc then dutiesOf (.dma (sS j)) else ∅) = _
  rw [if_pos ⟨rfl, rfl⟩]; exact if_pos (Or.inl (isS_s j))
theorem duties_r : (Rd YA YB).duties (rCell c j) 0 = {false} := by
  show (if (0 : ℕ) = 0 ∧ (c : Thread nD τ).2 = .tc then dutiesOf (.dma (rS j)) else ∅) = _
  rw [if_pos ⟨rfl, rfl⟩]; exact if_pos (Or.inr (isR_r j))
theorem duties_later (g : GSem nD τ sig) : ∀ r, 1 ≤ r → (Rd YA YB).duties g r = ∅ :=
  fun r hr => if_neg fun h => by omega
theorem amount_bar (d : Bool) : (Rd YA YB).amount (barCell c) 0 d = 1 := rfl
theorem amount_s (d : Bool) : (Rd YA YB).amount (sCell c j) 0 d = amt j := by show amt (copyOf (sS j)) = _; rw [copyOf_s]
theorem amount_r (d : Bool) : (Rd YA YB).amount (rCell c j) 0 d = amt j := by show amt (copyOf (rS j)) = _; rw [copyOf_r]
theorem expect_bar : (Rd YA YB).expect (barCell c) 0 = 2 := by
  unfold Schedule.expect Schedule.amountOf
  rw [duties_bar, Finset.sum_congr rfl fun d _ => amount_bar YA YB c d, Finset.sum_const, Finset.card_univ, Fintype.card_bool, smul_eq_mul]
theorem expect_s : (Rd YA YB).expect (sCell c j) 0 = amt j := by
  unfold Schedule.expect Schedule.amountOf; rw [duties_s, Finset.sum_singleton, amount_s]
theorem expect_r : (Rd YA YB).expect (rCell c j) 0 = amt j := by
  unfold Schedule.expect Schedule.amountOf; rw [duties_r, Finset.sum_singleton, amount_r]
theorem payload_barT : (Rd YA YB).payload (barCell c) 0 true = barPayT c := rfl
theorem payload_barF : (Rd YA YB).payload (barCell c) 0 false = barPayF c := rfl
theorem payload_s (d : Bool) : (Rd YA YB).payload (sCell c j) 0 d = sPay YA YB c j := by
  show (if IsS (sS j) then sPay YA YB c (copyOf (sS j)) else _) = _
  rw [if_pos (isS_s j), copyOf_s]
theorem payload_r (d : Bool) : (Rd YA YB).payload (rCell c j) 0 d = rPay YA YB c j := by
  show (if IsS (rS j) then _ else rPay YA YB c (copyOf (rS j))) = _
  rw [if_neg (not_isS_r j), copyOf_r]
theorem rest_bar : bigSep ((Rd YA YB).duties (barCell c) 0 \ ∅) (fun d => (Rd YA YB).payload (barCell c) 0 d) = iprop(barPayF c ∗ barPayT c) := by
  rw [Finset.sdiff_empty, duties_bar, bigSep_univ_eq_bigSepL [false, true] (by decide) (by decide), bigSepL_cons_cons, bigSepL_singleton,
    payload_barF, payload_barT]
  rfl
theorem rest_s : bigSep ((Rd YA YB).duties (sCell c j) 0 \ ∅) (fun d => (Rd YA YB).payload (sCell c j) 0 d) = sPay YA YB c j := by
  rw [Finset.sdiff_empty, duties_s, bigSep_singleton, payload_s]
theorem rest_r : bigSep ((Rd YA YB).duties (rCell c j) 0 \ ∅) (fun d => (Rd YA YB).payload (rCell c j) 0 d) = rPay YA YB c j := by
  rw [Finset.sdiff_empty, duties_r, bigSep_singleton, payload_r]

end Sched
end Contents

/-! ## What a device owes; the levels -/

/-- The credits of the copies from the `n`-th on. -/
def Ow (c : Dev nD) (n : ℕ) : CellTallies nD τ sig Unit := ∑ j ∈ Finset.univ.filter (fun j : Fin 8 => n ≤ j.val), tallyAt (rCell (peer j c) j) () (amt j)
theorem Ow_succ (c : Dev nD) (j : Fin 8) : Ow c j.val = Ow c (j.val + 1) + tallyAt (rCell (peer j c) j) () (amt j) := by
  unfold Ow
  have h : Finset.univ.filter (fun i : Fin 8 => j.val ≤ i.val) = insert j (Finset.univ.filter (fun i : Fin 8 => j.val + 1 ≤ i.val)) := by
    ext i; simp only [Finset.mem_filter, Finset.mem_univ, true_and, Finset.mem_insert, Fin.ext_iff]; omega
  rw [h, Finset.sum_insert (by simp), add_comm]
theorem Ow_end (c : Dev nD) : Ow c 8 = 0 := by
  unfold Ow
  rw [Finset.filter_false_of_mem (fun j _ => by have := j.isLt; omega), Finset.sum_empty]
/-- At the second signal, and at launch. -/
def O₁ (c : Dev nD) : CellTallies nD τ sig Unit := Ow c 0 + tallyAt (barCell (p2 c)) () 1
def O₀ (c : Dev nD) : CellTallies nD τ sig Unit := O₁ c + tallyAt (barCell (p1 c)) () 1

def L (g : GSem nD τ sig) : Finset Unit := if g.1.2 = .tc then {()} else ∅
/-- Barrier cells at 1, the receive cell of copy `j` at `2 + j`, everything else at 0. -/
def lvS : SemLoc sig → ℕ
  | .reg q => if q = barS then 1 else 0
  | .dma q => if IsR q then q.val - 10 else 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lvS_r (j : Fin 8) : lvS (.dma (rS j)) = 2 + j.val := by revert j; decide
theorem lvS_s (j : Fin 8) : lvS (.dma (sS j)) = 0 := by revert j; decide
theorem lvS_bar : lvS (.reg barS) = 1 := by decide

theorem Ow_pos {c : Dev nD} {n : ℕ} {g : GSem nD τ sig} {u : Unit} (h : 0 < Ow c n g u) : ∃ j : Fin 8, n ≤ j.val ∧ g = rCell (peer j c) j := by
  by_contra hn
  push Not at hn
  refine absurd h (Nat.not_lt.mpr (Nat.le_of_eq ?_))
  unfold Ow
  rw [Finset.sum_apply, Finsupp.finset_sum_apply]
  refine Finset.sum_eq_zero fun j hj => ?_
  rw [tallyAt_apply]
  exact if_neg fun h' => hn j (Finset.mem_filter.mp hj).2 h'.1
theorem O₀_pos {c : Dev nD} {g : GSem nD τ sig} {u : Unit} (h : 0 < O₀ c g u) :
    (∃ j : Fin 8, g = rCell (peer j c) j) ∨ g = barCell (p2 c) ∨ g = barCell (p1 c) := by
  unfold O₀ O₁ at h
  rw [Pi.add_apply, Finsupp.add_apply, Pi.add_apply, Finsupp.add_apply, tallyAt_apply, tallyAt_apply] at h
  by_contra hn; rw [not_or] at hn
  obtain ⟨h1, h2⟩ := hn; rw [not_or] at h2
  rw [if_neg (fun h' => h2.1 h'.1), if_neg (fun h' => h2.2 h'.1)] at h
  simp only [Nat.add_zero] at h
  obtain ⟨j, -, hj⟩ := Ow_pos h
  exact h1 ⟨j, hj⟩

/-- A wait at level `l` while the copies from the `n`-th on are owed, all of them above. -/
theorem mayWait_Ow (c : Dev nD) (sm : SemLoc sig) (n : ℕ) (h : lvS sm < 2 + n) : (levAts L lv : sProp 𝕄) ⊢ MayWait (c : Thread nD τ) sm () (Ow c n) :=
  MayOwe.of_cut (L := L) (lev := lv) (1 + n) (fun p hp => by rw [Finset.mem_singleton.mp hp, L_tc]; exact Finset.mem_singleton_self _)
    (fun g u hg => by obtain ⟨j, hj, rfl⟩ := Ow_pos hg; exact Finset.mem_singleton_self _)
    (fun p hp => by rw [Finset.mem_singleton.mp hp]; show lvS sm ≤ 1 + n; omega)
    (fun g u hg => by obtain ⟨j, hj, rfl⟩ := Ow_pos hg; show 1 + n < lvS (.dma (rS j)); rw [lvS_r]; omega)
theorem mayWait_stage (c : Dev nD) (q : DmaSem sig) (hq : ¬ IsR q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; show lvS (.dma q) ≤ 0; exact Nat.le_of_eq (if_neg hq))
      (fun g u hg => by
        rcases O₀_pos hg with ⟨j, rfl⟩ | rfl | rfl
        · show 0 < lvS (.dma (rS j)); rw [lvS_r]; omega
        · exact Nat.one_pos
        · exact Nat.one_pos)
  · rw [MayWait_zero]; iintro -; iempintro

end Cert.Swa
-- ==== Proof.K.Moves.lean ====
/-
# The moves: starting a copy, waiting for its source, waiting for its landing

What device `c` holds of copy `j`: before it starts (`pre`), while its source is out (`mid`), once the source is back (`mid'`), and
once the partner's copy `j` has landed (`fin`).
-/
module

public import proofs.«01_k».proof.Proof.K.Sched

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The kernel's cells of one device: the barrier's, the eight send cells, the eight receive cells. -/
abbrev CI : Type := Unit ⊕ (Fin 8 ⊕ Fin 8)
abbrev csem : CI → SemLoc sig := fun
  | .inl _ => .reg barS
  | .inr (.inl j) => .dma (sS j)
  | .inr (.inr j) => .dma (rS j)
abbrev kcell (ck : Dev nD × CI) : GSem nD τ sig := ((ck.1 : Thread nD τ), csem ck.2)
abbrev cb (c : Dev nD) : Dev nD × CI := (c, .inl ())
abbrev cs (c : Dev nD) (j : Fin 8) : Dev nD × CI := (c, .inr (.inl j))
abbrev cr (c : Dev nD) (j : Fin 8) : Dev nD × CI := (c, .inr (.inr j))

section
variable (YA YB : Dev nD → Vec F S512x1024 .bf16) (K : Dev nD × CI → ℕ)

/-- Every cell's invariant, and that every cell has reached round 0. -/
def records : sProp 𝕄 :=
  iprop((bigSep Finset.univ fun ck : Dev nD × CI => cellInv ER (Rd YA YB) (K ck) (kcell ck))
    ∗ bigSep Finset.univ fun ck : Dev nD × CI => reached ER (kcell ck) 0)
instance records_persistent : BI.Persistent (records YA YB K) := by unfold records; infer_instance
theorem inv_at (ck : Dev nD × CI) : records YA YB K ⊢ cellInv ER (Rd YA YB) (K ck) (kcell ck) := by
  unfold records
  exact sep_elim_left.trans (bigSep_elim (Φ := fun ck : Dev nD × CI => cellInv ER (Rd YA YB) (K ck) (kcell ck)) (Finset.mem_univ ck))
theorem reached_at (ck : Dev nD × CI) : records YA YB K ⊢ reached ER (kcell ck) 0 := by
  unfold records
  exact sep_elim_right.trans (bigSep_elim (Φ := fun ck : Dev nD × CI => (reached ER (kcell ck) 0 : sProp 𝕄)) (Finset.mem_univ ck))

def pre (c : Dev nD) (j : Fin 8) : sProp 𝕄 :=
  iprop(atPos ER (sCell c j) 0 ∅ 0 ∗ atPos ER (rCell c j) 0 ∅ 0 ∗ dutyTok ER (sCell c j) 0 false ∗ dutyTok ER (rCell (peer j c) j) 0 false
    ∗ cred (tallyAt (rCell c j) () (amt j)))
def mid (c : Dev nD) (j : Fin 8) : sProp 𝕄 :=
  iprop(atPos ER (sCell c j) 0 ∅ 0 ∗ atPos ER (rCell c j) 0 ∅ 0 ∗ cred (tallyAt (sCell c j) () (amt j)) ∗ cred (tallyAt (rCell c j) () (amt j)))
def mid' (c : Dev nD) (j : Fin 8) : sProp 𝕄 :=
  iprop(atPos ER (sCell c j) 1 ∅ 0 ∗ atPos ER (rCell c j) 0 ∅ 0 ∗ cred (tallyAt (rCell c j) () (amt j)))
def fin (c : Dev nD) (j : Fin 8) : sProp 𝕄 := iprop(atPos ER (sCell c j) 1 ∅ 0 ∗ atPos ER (rCell c j) 1 ∅ 0)
/-- What device `c` owes, whatever it has waited on. -/
def ow (c : Dev nD) (O : CellTallies nD τ sig Unit) : sProp 𝕄 := iprop(∃ W, owes (c : Thread nD τ) O W)

section Moves
variable {sp sp' : CoreSpace} {s : Shape}

/-- Copy `j` started, its source rows to travel with it. -/
theorem wp_land {α : Type} {Q : α → sProp 𝕄} {k : PUnit → Prog (TpuEff nD τ sig (Elt F) Λ₀ .tc) α} (c n : Dev nD) (j : Fin 8) (hn : n = peer j c) {src : Memref sig .tc sp s .bf16} {dst : Memref sig (Dev.tc n : Thread nD τ).2.kind sp' s .bf16}
    {hsc : dst.view.ref.isScScratch = false} {hsrc : src.view.WordExact} {hdst : dst.view.WordExact}
    {hsem : DmaTarget.Typed sp (.dma (rS j)) (.remote (Dev.tc n : Thread nD τ) dst (.dma (sS j)) hsc)}
    {fs : Buf (Elt F) (src.view.loc (c : Thread nD τ))} {fd : Buf (Elt F) (dst.view.loc (n : Thread nD τ))}
    (hN : dst.view.dmaCredit = amt j) (m : ℕ) (hm : m = j.val + 1) (hp₁ : sPay YA YB c j = iprop(emp))
    (hp₂ : iprop((dst.view.loc (n : Thread nD τ) ↦[dst.view.set]{fullShare} (dst.view.write (Elt F) fd (src.view.read (Elt F) fs) Finset.univ))
        ∗ (src.view.loc (c : Thread nD τ) ↦[src.view.set]{fullShare} fs)) ⊢ rPay YA YB n j) :
    iprop(records YA YB K ∗ pre c j ∗ (src.view.loc (c : Thread nD τ) ↦[src.view.set]{fullShare} fs) ∗ (dst.view.loc (n : Thread nD τ) ↦[dst.view.set]{fullShare} fd)
        ∗ ow c (Ow c j.val))
      ⊢ iprop(((mid c j ∗ ow c (Ow c m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sS j)) hsc) (.dma (rS j)) hsrc hdst hsem) k) Q) := by
  subst hn hm
  unfold pre mid ow
  iintro ⟨#HR, ⟨Has, Har, Hts, Htr, Hcr⟩, Hsrc, Hdst, ⟨%W, HO⟩⟩ Hk
  iapply (Rounds.wp_send_landing_pointsTo 𝒱₀ ER (Rd YA YB) (c : Thread nD τ) none (κ₁ := K (cs c j)) (κ₂ := K (cr (peer j c) j))
    (r₁ := 0) (r₂ := 0) (d₁ := false) (d₂ := false)
    (by rw [duties_s YA YB c j]; exact Finset.mem_singleton_self _) (by rw [duties_r YA YB (peer j c) j]; exact Finset.mem_singleton_self _)
    () () (amt j) (show dst.view.amount (.dma (rS j)) = amt j from hN) (amount_s YA YB c j false) (amount_r YA YB (peer j c) j false) (Ow c (j.val + 1)) (Ow_succ c j) (W := W)
    (by rw [payload_s, hp₁]) (by rw [payload_r]; exact hp₂)) $$ [Hsrc Hdst HO Hts Htr]
  · isplitr; · iapply (inv_at YA YB K (cs c j)); iexact HR
    isplitr; · iapply (inv_at YA YB K (cr (peer j c) j)); iexact HR
    isplitl [Hsrc]; · iexact Hsrc
    isplitl [Hdst]; · iexact Hdst
    isplitl [HO]; · iexact HO
    isplitl [Hts]; · iexact Hts
    isplitr; · iapply (reached_at YA YB K (cs c j)); iexact HR
    isplitl [Htr]; · iexact Htr
    iapply (reached_at YA YB K (cr (peer j c) j)); iexact HR
  iintro ⟨Hcs, HO⟩
  iapply Hk
  isplitr [HO]
  · isplitl [Has]; · iexact Has
    isplitl [Har]; · iexact Har
    isplitl [Hcs]; · iexact Hcs
    iexact Hcr
  iexists W; iexact HO

/-- Copy `j` started, its source rows to come back on the send cell. -/
theorem wp_send {α : Type} {Q : α → sProp 𝕄} {k : PUnit → Prog (TpuEff nD τ sig (Elt F) Λ₀ .tc) α} (c n : Dev nD) (j : Fin 8) (hn : n = peer j c) {src : Memref sig .tc sp s .bf16} {dst : Memref sig (Dev.tc n : Thread nD τ).2.kind sp' s .bf16}
    {hsc : dst.view.ref.isScScratch = false} {hsrc : src.view.WordExact} {hdst : dst.view.WordExact}
    {hsem : DmaTarget.Typed sp (.dma (rS j)) (.remote (Dev.tc n : Thread nD τ) dst (.dma (sS j)) hsc)}
    {fs : Buf (Elt F) (src.view.loc (c : Thread nD τ))} {fd : Buf (Elt F) (dst.view.loc (n : Thread nD τ))}
    (hN : dst.view.dmaCredit = amt j) (m : ℕ) (hm : m = j.val + 1)
    (hp₁ : (src.view.loc (c : Thread nD τ) ↦[src.view.set]{fullShare} fs) ⊢ sPay YA YB c j)
    (hp₂ : (dst.view.loc (n : Thread nD τ) ↦[dst.view.set]{fullShare} (dst.view.write (Elt F) fd (src.view.read (Elt F) fs) Finset.univ)) ⊢ rPay YA YB n j) :
    iprop(records YA YB K ∗ pre c j ∗ (src.view.loc (c : Thread nD τ) ↦[src.view.set]{fullShare} fs) ∗ (dst.view.loc (n : Thread nD τ) ↦[dst.view.set]{fullShare} fd)
        ∗ ow c (Ow c j.val))
      ⊢ iprop(((mid c j ∗ ow c (Ow c m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sS j)) hsc) (.dma (rS j)) hsrc hdst hsem) k) Q) := by
  subst hn hm
  unfold pre mid ow
  iintro ⟨#HR, ⟨Has, Har, Hts, Htr, Hcr⟩, Hsrc, Hdst, ⟨%W, HO⟩⟩ Hk
  iapply (Rounds.wp_send_pointsTo 𝒱₀ ER (Rd YA YB) (c : Thread nD τ) none (κ₁ := K (cs c j)) (κ₂ := K (cr (peer j c) j))
    (r₁ := 0) (r₂ := 0) (d₁ := false) (d₂ := false)
    (by rw [duties_s YA YB c j]; exact Finset.mem_singleton_self _) (by rw [duties_r YA YB (peer j c) j]; exact Finset.mem_singleton_self _)
    () () (amt j) (show dst.view.amount (.dma (rS j)) = amt j from hN) (amount_s YA YB c j false) (amount_r YA YB (peer j c) j false) (Ow c (j.val + 1)) (Ow_succ c j) (W := W)
    (by rw [payload_s]; exact hp₁) (by rw [payload_r]; exact hp₂)) $$ [Hsrc Hdst HO Hts Htr]
  · isplitr; · iapply (inv_at YA YB K (cs c j)); iexact HR
    isplitr; · iapply (inv_at YA YB K (cr (peer j c) j)); iexact HR
    isplitl [Hsrc]; · iexact Hsrc
    isplitl [Hdst]; · iexact Hdst
    isplitl [HO]; · iexact HO
    isplitl [Hts]; · iexact Hts
    isplitr; · iapply (reached_at YA YB K (cs c j)); iexact HR
    isplitl [Htr]; · iexact Htr
    iapply (reached_at YA YB K (cr (peer j c) j)); iexact HR
  iintro ⟨Hcs, HO⟩
  iapply Hk
  isplitr [HO]
  · isplitl [Has]; · iexact Has
    isplitl [Har]; · iexact Har
    isplitl [Hcs]; · iexact Hcs
    iexact Hcr
  iexists W; iexact HO

/-- The wait on the send cell of copy `j`, the copies from the `m`-th on still owed. -/
theorem wp_wait_s {α : Type} {Q : α → sProp 𝕄} {k : PUnit → Prog (TpuEff nD τ sig (Elt F) Λ₀ .tc) α} (c : Dev nD) (j : Fin 8) (m : ℕ) {src : Memref sig .tc sp s .bf16} {dst : Memref sig .tc sp' s .bf16}
    {hsrc : src.view.WordExact} {hdst : dst.view.WordExact} (hN : dst.view.dmaCredit = amt j) :
    iprop(records YA YB K ∗ levAts L lv ∗ mid c j ∗ ow c (Ow c m))
      ⊢ iprop(((mid' c j ∗ ow c (Ow c m) ∗ sPay YA YB c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS j) src dst hsrc hdst) k) Q) := by
  unfold mid mid' ow
  iintro ⟨#HR, #HL, ⟨Has, Har, Hcs, Hcr⟩, ⟨%W, HO⟩⟩ Hk
  iapply (Rounds.wp_wait_rest_token 𝒱₀ ER (Rd YA YB) (c : Thread nD τ) none (κ := K (cs c j))
      (wpE_waitDma2_eq 𝒱₀ (c : Thread nD τ) none Set.univ) (Set.mem_univ _) () (O := Ow c m) (W := W) (R := 0) (m := 0) (T := ∅)
      (by rw [Nat.zero_add, hN, expect_s YA YB c j])) $$ [Hcs HO Has]
  · isplitr; · iapply (inv_at YA YB K (cs c j)); iexact HR
    isplitl [Hcs]; · rw [hN]; iexact Hcs
    isplitl [HO]; · iexact HO
    isplitr; · iapply (mayWait_Ow c (.dma (sS j)) m (by rw [lvS_s]; omega)); iexact HL
    iexact Has
  iintro ⟨HO, Has, -, Hpay⟩
  iapply Hk
  isplitl [Has Har Hcr]
  · isplitl [Has]; · iexact Has
    isplitl [Har]; · iexact Har
    iexact Hcr
  isplitl [HO]; · iexists _; iexact HO
  iapply (Entails.of_eq (rest_s YA YB c j)); iexact Hpay

/-- The wait on the receive cell of copy `j`. -/
theorem wp_wait_r {α : Type} {Q : α → sProp 𝕄} {k : PUnit → Prog (TpuEff nD τ sig (Elt F) Λ₀ .tc) α} (c : Dev nD) (j : Fin 8) (m : ℕ) (hm : j.val < m) {src : Memref sig .tc sp s .bf16} {dst : Memref sig .tc sp' s .bf16}
    {hsrc : src.view.WordExact} {hdst : dst.view.WordExact} (hN : dst.view.dmaCredit = amt j) :
    iprop(records YA YB K ∗ levAts L lv ∗ mid' c j ∗ ow c (Ow c m))
      ⊢ iprop(((fin c j ∗ ow c (Ow c m) ∗ rPay YA YB c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS j) src dst hsrc hdst) k) Q) := by
  unfold fin mid' ow
  iintro ⟨#HR, #HL, ⟨Has, Har, Hcr⟩, ⟨%W, HO⟩⟩ Hk
  iapply (Rounds.wp_wait_rest_token 𝒱₀ ER (Rd YA YB) (c : Thread nD τ) none (κ := K (cr c j))
      (wpE_waitDma2_eq 𝒱₀ (c : Thread nD τ) none Set.univ) (Set.mem_univ _) () (O := Ow c m) (W := W) (R := 0) (m := 0) (T := ∅)
      (by rw [Nat.zero_add, hN, expect_r YA YB c j])) $$ [Hcr HO Har]
  · isplitr; · iapply (inv_at YA YB K (cr c j)); iexact HR
    isplitl [Hcr]; · rw [hN]; iexact Hcr
    isplitl [HO]; · iexact HO
    isplitr; · iapply (mayWait_Ow c (.dma (rS j)) m (by rw [lvS_r]; omega)); iexact HL
    iexact Har
  iintro ⟨HO, Har, -, Hpay⟩
  iapply Hk
  isplitl [Has Har]
  · isplitl [Has]; · iexact Has
    iexact Har
  isplitl [HO]; · iexists _; iexact HO
  iapply (Entails.of_eq (rest_r YA YB c j)); iexact Hpay

end Moves

/-- At the end the cells of copy `j` close, their counters at zero. -/
theorem close_copy (c : Dev nD) (j : Fin 8) : iprop(records YA YB K ∗ fin c j) ⊢ |={Set.univ}=> iprop(semVal (sCell c j) 0 ∗ semVal (rCell c j) 0) := by
  unfold fin
  iintro ⟨#HR, Has, Har⟩
  imod (Rounds.cell_close ER (Rd YA YB) (Set.mem_univ (K (cs c j))) (fun h => h) (R := 1) (duties_later YA YB (sCell c j))) $$ [Has] with Hs
  · isplitr; · iapply (inv_at YA YB K (cs c j)); iexact HR
    iexact Has
  imod (Rounds.cell_close ER (Rd YA YB) (Set.mem_univ (K (cr c j))) (fun h => h) (R := 1) (duties_later YA YB (rCell c j))) $$ [Har] with Hr
  · isplitr; · iapply (inv_at YA YB K (cr c j)); iexact HR
    iexact Har
  imodintro
  isplitl [Hs] <;> iassumption

end

end Cert.Swa
-- ==== Proof.K.AddStep.lean ====
/-
# One block added to

A device adds what landed to the rows it keeps: it reads both, and writes the sum.
-/
module

public import proofs.«01_k».proof.Proof.K.Moves
public import Idealize.ShloMosaic.Lib.Pipeline.Value

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- Load a block, load what landed, load the block again, store a value of the two. -/
theorem wp_add {α : Type} {Q : α → sProp 𝕄} {k : PUnit → Prog (TpuEff nD τ sig (Elt F) Λ₀ .tc) α} (c : Dev nD) {s s' : Shape}
    {m : Memref sig .tc .vmem s .bf16} {m' : Memref sig .tc .vmem s' .bf16} {r : Rect s} {r' : Rect s'}
    {hl hl' : m.view.LoadsAt r.toLoadRect} {hl'' : m'.view.LoadsAt r'.toLoadRect}
    {pay : (r.shape.Idx → Elt F .bf16) → (r'.shape.Idx → Elt F .bf16) → (r.shape.Idx → Elt F .bf16)}
    {hx : (m.access r).Stores Finset.univ} {hm : (Finset.univ : Finset r.shape.Idx) = Finset.univ ∨ ∀ a, r.stride a = 1}
    {S : Finset (Idx (m.view.loc (c : Thread nD τ)))} {S' : Finset (Idx (m'.view.loc (c : Thread nD τ)))}
    {f h : Buf (Elt F) (m.view.loc (c : Thread nD τ))} {g : Buf (Elt F) (m'.view.loc (c : Thread nD τ))}
    (hS : (m.access r).set ⊆ S) (hS' : (m'.access r').set ⊆ S')
    (hw : ∀ i ∈ S, (m.access r).write (Elt F) f (pay ((m.access r).read (Elt F) f) ((m'.access r').read (Elt F) g)) Finset.univ i = h i) :
    iprop((m.view.loc (c : Thread nD τ) ↦[S]{fullShare} f) ∗ (m'.view.loc (c : Thread nD τ) ↦[S']{fullShare} g))
      ⊢ iprop((((m.view.loc (c : Thread nD τ) ↦[S]{fullShare} h) ∗ (m'.view.loc (c : Thread nD τ) ↦[S']{fullShare} g))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load m r.toLoadRect hl) fun x => .op (.load m' r'.toLoadRect hl'') fun y => .op (.load m r.toLoadRect hl') fun _ =>
                .op (.store m r (pay x y) Finset.univ hx hm) k) Q) := by
  iintro ⟨Hf, Hg⟩ Hk
  iapply (wp_load_rect 𝒱₀ (c : Thread nD τ) none Set.univ hS) $$ [Hf]; · iexact Hf
  iintro Hf
  iapply (wp_load_rect 𝒱₀ (c : Thread nD τ) none Set.univ hS') $$ [Hg]; · iexact Hg
  iintro Hg
  iapply (wp_load_rect 𝒱₀ (c : Thread nD τ) none Set.univ hS) $$ [Hf]; · iexact Hf
  iintro Hf
  iapply (wp_store 𝒱₀ (c : Thread nD τ) none Set.univ (S := S) (by rw [View.setOn_univ]; exact hS)) $$ [Hf]; · iexact Hf
  iintro Hf
  iapply Hk
  isplitl [Hf]
  · iapply (Entails.of_eq (pointsTo_congr hw)); iexact Hf
  iexact Hg

/-! ## What the four additions leave -/

section
variable (YA YB : Dev nD → Vec F S512x1024 .bf16) (c : Dev nD)

theorem pay40_apply (x y : Vec F S256x1024 .bf16) : k0_pay40 x y = addf x y := by
  unfold k0_pay40; funext i; exact congrFun (shapeCast_self _ _) i
theorem pay41_apply (x y : Vec F S256x1024 .bf16) : k0_pay41 x y = addf x y := by
  unfold k0_pay41; funext i; exact congrFun (shapeCast_self _ _) i
theorem pay42_apply (x y : Vec F S128x1024 .bf16) : k0_pay42 x y = addf x y := by
  unfold k0_pay42; funext i; exact congrFun (shapeCast_self _ _) i
theorem pay43_apply (x y : Vec F S128x1024 .bf16) : k0_pay43 x y = addf x y := by
  unfold k0_pay43; funext i; exact congrFun (shapeCast_self _ _) i

theorem add0 (f : Vec F S512x1024 .bf16) : ∀ i ∈ rows (ak c) 256,
    ((Memref.whole cc0_scratch7).access (Rect.unit (s := S512x1024) (k0_off4 c) S256x1024.size (k0_off4_inb c))).write (Elt F) (YA c)
      (k0_pay40 (((Memref.whole cc0_scratch7).access (Rect.unit (s := S512x1024) (k0_off4 c) S256x1024.size (k0_off4_inb c))).read (Elt F) (YA c))
        (((Memref.whole cc0_scratch9).access (Rect.unit (s := S512x1024) ![0, 0] S256x1024.size inb_S512x1024_S256x1024_0_0)).read (Elt F)
          (mc0.view.write (Elt F) f ((m2 (p1 c)).view.read (Elt F) (YA (p1 c))) Finset.univ))) Finset.univ i = a1 YA c i := by
  intro i hi
  rw [← set_rows _ _ _ (off4_eq c) (k0_off4_inb c)] at hi
  refine write_addA _ (YA c) (YA (p1 c)) _ (fun x => ?_) hi
  rw [pay40_apply]
  refine congrArg (FloatOps.addf _) ?_
  refine (congrFun (View.read_write_univ (v := mc0.view) f _) x).trans ?_
  exact congrFun (readA_congr (k0_off2 (p1 c)) (k0_off4 c) (k0_off2_inb (p1 c)) (k0_off4_inb c) (by rw [off2_eq, off4_eq, ak'_p1]) (YA (p1 c))) x
theorem add1 (f : Vec F S512x1024 .bf16) : ∀ i ∈ rows (bk c) 256,
    ((Memref.whole cc0_scratch8).access (Rect.unit (s := S512x1024) (k0_off6 c) S256x1024.size (k0_off6_inb c))).write (Elt F) (YB c)
      (k0_pay41 (((Memref.whole cc0_scratch8).access (Rect.unit (s := S512x1024) (k0_off6 c) S256x1024.size (k0_off6_inb c))).read (Elt F) (YB c))
        (((Memref.whole cc0_scratch9).access (Rect.unit (s := S512x1024) ![256, 0] S256x1024.size inb_S512x1024_S256x1024_256_0)).read (Elt F)
          (mc1.view.write (Elt F) f ((m3 (p2 c)).view.read (Elt F) (YB (p2 c))) Finset.univ))) Finset.univ i = b1 YB c i := by
  intro i hi
  rw [← set_rows _ _ _ (off6_eq c) (k0_off6_inb c)] at hi
  refine write_addB _ (YB c) (YB (p2 c)) _ (fun x => ?_) hi
  rw [pay41_apply]
  refine congrArg (FloatOps.addf _) ?_
  refine (congrFun (View.read_write_univ (v := mc1.view) f _) x).trans ?_
  exact congrFun (readB_congr (k0_off3 (p2 c)) (k0_off6 c) (k0_off3_inb (p2 c)) (k0_off6_inb c) (by rw [off3_eq, off6_eq, bk'_p2]) (YB (p2 c))) x
theorem add2 (f : Vec F S256x1024 .bf16) : ∀ i ∈ rows (qa c) 128,
    ((Memref.whole cc0_scratch7).access (Rect.unit (s := S512x1024) (k0_off8 c) S128x1024.size (k0_off8_inb c))).write (Elt F) (a1 YA c)
      (k0_pay42 (((Memref.whole cc0_scratch7).access (Rect.unit (s := S512x1024) (k0_off8 c) S128x1024.size (k0_off8_inb c))).read (Elt F) (a1 YA c))
        (((Memref.whole cc0_scratch10).access (Rect.unit (s := S256x1024) ![0, 0] S128x1024.size inb_S256x1024_S128x1024_0_0)).read (Elt F)
          (mt0.view.write (Elt F) f ((m5 (p2 c)).view.read (Elt F) (a1 YA (p2 c))) Finset.univ))) Finset.univ i = a2 YA c i := by
  intro i hi
  rw [← set_rows _ _ _ (off8_eq c) (k0_off8_inb c)] at hi
  refine write_addA _ (a1 YA c) (a1 YA (p2 c)) _ (fun x => ?_) hi
  rw [pay42_apply]
  refine congrArg (FloatOps.addf _) ?_
  refine (congrFun (View.read_write_univ (v := mt0.view) f _) x).trans ?_
  exact congrFun (readA_congr (k0_off5 (p2 c)) (k0_off8 c) (k0_off5_inb (p2 c)) (k0_off8_inb c) (by rw [off5_eq, off8_eq, qa'_p2]) (a1 YA (p2 c))) x
theorem add3 (f : Vec F S256x1024 .bf16) : ∀ i ∈ rows (qb c) 128,
    ((Memref.whole cc0_scratch8).access (Rect.unit (s := S512x1024) (k0_off10 c) S128x1024.size (k0_off10_inb c))).write (Elt F) (b1 YB c)
      (k0_pay43 (((Memref.whole cc0_scratch8).access (Rect.unit (s := S512x1024) (k0_off10 c) S128x1024.size (k0_off10_inb c))).read (Elt F) (b1 YB c))
        (((Memref.whole cc0_scratch10).access (Rect.unit (s := S256x1024) ![128, 0] S128x1024.size inb_S256x1024_S128x1024_128_0)).read (Elt F)
          (mt1.view.write (Elt F) f ((m7 (p1 c)).view.read (Elt F) (b1 YB (p1 c))) Finset.univ))) Finset.univ i = b2 YB c i := by
  intro i hi
  rw [← set_rows _ _ _ (off10_eq c) (k0_off10_inb c)] at hi
  refine write_addB _ (b1 YB c) (b1 YB (p1 c)) _ (fun x => ?_) hi
  rw [pay43_apply]
  refine congrArg (FloatOps.addf _) ?_
  refine (congrFun (View.read_write_univ (v := mt1.view) f _) x).trans ?_
  exact congrFun (readB_congr (k0_off7 (p1 c)) (k0_off10 c) (k0_off7_inb (p1 c)) (k0_off10_inb c) (by rw [off7_eq, off10_eq, qb'_p1]) (b1 YB (p1 c))) x
end

end Cert.Swa
-- ==== Proof.K.Copies.lean ====
/-
# The eight copies, started

What each copy takes, and that what it leaves in the partner's memory is what the partner's receive cell promises.
-/
module

public import proofs.«01_k».proof.Proof.K.Moves

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (YA YB : Dev nD → Vec F S512x1024 .bf16) (K : Dev nD × CI → ℕ)

/-- A view written with what it reads of `f` holds `f` on its elements. -/
theorem write_read_on {s : Shape} {m : Memref sig .tc .vmem s .bf16} (g f : Buf (Elt F) (m.view.loc ((0 : Dev nD) : Thread nD τ)))
    (i) (hi : i ∈ m.view.set) : m.view.write (Elt F) g (m.view.read (Elt F) f) Finset.univ i = f i := by
  rw [View.write_read_eq_piecewise, View.setOn_univ]
  exact Finset.piecewise_eq_of_mem _ _ _ hi

section Credits
variable (c : Dev nD)
theorem cr0 : mc0.view.dmaCredit = amt 0 := (if_pos (by decide)).symm
theorem cr0' : (m2 c).view.dmaCredit = amt 0 := by unfold amt; rw [if_pos (by decide)]
theorem cr1 : mc1.view.dmaCredit = amt 1 := by decide +kernel
theorem cr1' : (m3 c).view.dmaCredit = amt 1 := by unfold amt; rw [if_pos (by decide)]
theorem cr2 : mt0.view.dmaCredit = amt 2 := (if_neg (by decide)).symm
theorem cr2' : (m5 c).view.dmaCredit = amt 2 := by unfold amt; rw [if_neg (by decide)]
theorem cr3 : mt1.view.dmaCredit = amt 3 := by decide +kernel
theorem cr3' : (m7 c).view.dmaCredit = amt 3 := by unfold amt; rw [if_neg (by decide)]
theorem cr4 : (m9 c).view.dmaCredit = amt 4 := by unfold amt; rw [if_neg (by decide)]
theorem cr5 : (m11 c).view.dmaCredit = amt 5 := by unfold amt; rw [if_neg (by decide)]
theorem cr6 : (m12 c).view.dmaCredit = amt 6 := by unfold amt; rw [if_pos (by decide)]
theorem cr7 : (m13 c).view.dmaCredit = amt 7 := by unfold amt; rw [if_pos (by decide)]
end Credits

section Landed
variable (c n : Dev nD)

theorem landed0 (hn : n = p1 c) (fd) :
    iprop((mc0.view.loc (n : Thread nD τ) ↦[mc0.view.set]{fullShare} (mc0.view.write (Elt F) fd ((m2 c).view.read (Elt F) (YA c)) Finset.univ))
        ∗ ((m2 c).view.loc (c : Thread nD τ) ↦[(m2 c).view.set]{fullShare} (YA c))) ⊢ rPay YA YB n 0 := by
  subst hn
  rw [show rPay YA YB (p1 c) 0 = land0 YA (p1 c) from rfl]
  unfold land0 in0
  rw [p1_p1, mc0_set, m2_set]
  iintro ⟨Hd, Hs⟩
  isplitl [Hd]
  · iexists fd; iexact Hd
  iexact Hs

theorem landed1 (hn : n = p2 c) (fd) :
    iprop((mc1.view.loc (n : Thread nD τ) ↦[mc1.view.set]{fullShare} (mc1.view.write (Elt F) fd ((m3 c).view.read (Elt F) (YB c)) Finset.univ))
        ∗ ((m3 c).view.loc (c : Thread nD τ) ↦[(m3 c).view.set]{fullShare} (YB c))) ⊢ rPay YA YB n 1 := by
  subst hn
  rw [show rPay YA YB (p2 c) 1 = land1 YB (p2 c) from rfl]
  unfold land1 in1
  rw [p2_p2, mc1_set, m3_set]
  iintro ⟨Hd, Hs⟩
  isplitl [Hd]
  · iexists fd; iexact Hd
  iexact Hs

theorem landed2 (hn : n = p2 c) (fd) :
    iprop((mt0.view.loc (n : Thread nD τ) ↦[mt0.view.set]{fullShare} (mt0.view.write (Elt F) fd ((m5 c).view.read (Elt F) (a1 YA c)) Finset.univ))
        ∗ ((m5 c).view.loc (c : Thread nD τ) ↦[(m5 c).view.set]{fullShare} (a1 YA c))) ⊢ rPay YA YB n 2 := by
  subst hn
  rw [show rPay YA YB (p2 c) 2 = land2 YA (p2 c) from rfl]
  unfold land2 in2
  rw [p2_p2, mt0_set, m5_set]
  iintro ⟨Hd, Hs⟩
  isplitl [Hd]
  · iexists fd; iexact Hd
  iexact Hs

theorem landed3 (hn : n = p1 c) (fd) :
    iprop((mt1.view.loc (n : Thread nD τ) ↦[mt1.view.set]{fullShare} (mt1.view.write (Elt F) fd ((m7 c).view.read (Elt F) (b1 YB c)) Finset.univ))
        ∗ ((m7 c).view.loc (c : Thread nD τ) ↦[(m7 c).view.set]{fullShare} (b1 YB c))) ⊢ rPay YA YB n 3 := by
  subst hn
  rw [show rPay YA YB (p1 c) 3 = land3 YB (p1 c) from rfl]
  unfold land3 in3
  rw [p1_p1, mt1_set, m7_set]
  iintro ⟨Hd, Hs⟩
  isplitl [Hd]
  · iexists fd; iexact Hd
  iexact Hs

theorem landed4 (hn : n = p2 c) (fd) :
    ((m9 c).view.loc (n : Thread nD τ) ↦[(m9 c).view.set]{fullShare} ((m9 c).view.write (Elt F) fd ((m9 c).view.read (Elt F) (a2 YA c)) Finset.univ))
      ⊢ rPay YA YB n 4 := by
  subst hn
  rw [show rPay YA YB (p2 c) 4 = arA (p2 c) (rows (qa (p2 (p2 c))) 128) (a2 YA (p2 (p2 c))) from rfl, p2_p2, ← m9_set]
  exact Entails.of_eq (pointsTo_congr fun i hi => write_read_on _ _ i hi)

theorem landed5 (hn : n = p1 c) (fd) :
    ((m11 c).view.loc (n : Thread nD τ) ↦[(m11 c).view.set]{fullShare} ((m11 c).view.write (Elt F) fd ((m11 c).view.read (Elt F) (b2 YB c)) Finset.univ))
      ⊢ rPay YA YB n 5 := by
  subst hn
  rw [show rPay YA YB (p1 c) 5 = arB (p1 c) (rows (qb (p1 (p1 c))) 128) (b2 YB (p1 (p1 c))) from rfl, p1_p1, ← m11_set]
  exact Entails.of_eq (pointsTo_congr fun i hi => write_read_on _ _ i hi)

theorem landed6 (hn : n = p1 c) (fd) :
    ((m12 c).view.loc (n : Thread nD τ) ↦[(m12 c).view.set]{fullShare} ((m12 c).view.write (Elt F) fd ((m12 c).view.read (Elt F) (kA YA c)) Finset.univ))
      ⊢ rPay YA YB n 6 := by
  subst hn
  rw [show rPay YA YB (p1 c) 6 = arA (p1 c) (rows (ak (p1 (p1 c))) 256) (kA YA (p1 (p1 c))) from rfl, p1_p1, ← m12_set]
  exact Entails.of_eq (pointsTo_congr fun i hi => write_read_on _ _ i hi)

theorem landed7 (hn : n = p2 c) (fd) :
    ((m13 c).view.loc (n : Thread nD τ) ↦[(m13 c).view.set]{fullShare} ((m13 c).view.write (Elt F) fd ((m13 c).view.read (Elt F) (kB YB c)) Finset.univ))
      ⊢ rPay YA YB n 7 := by
  subst hn
  rw [show rPay YA YB (p2 c) 7 = arB (p2 c) (rows (bk (p2 (p2 c))) 256) (kB YB (p2 (p2 c))) from rfl, p2_p2, ← m13_set]
  exact Entails.of_eq (pointsTo_congr fun i hi => write_read_on _ _ i hi)

end Landed

section Go
variable {α : Type} (c n : Dev nD)

theorem go0 {Q : α → sProp 𝕄} {k : PUnit → Prog (TpuEff nD τ sig (Elt F) Λ₀ .tc) α} (hn : n = p1 c) {hsc hsrc hdst hsem} :
    iprop(records YA YB K ∗ pre c 0 ∗ arA c (rows (ak' c) 256) (YA c) ∗ (∃ f, cm (p1 c) (rows 0 256) f) ∗ ow c (Ow c 0))
      ⊢ iprop(((mid c 0 ∗ ow c (Ow c 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m2 c) (.remote (Dev.tc n : Thread nD τ) mc0 (.dma (sS 0)) hsc) (.dma (rS 0)) hsrc hdst hsem) k) Q) := by
  have hl := fun fd => landed0 YA YB c n hn fd
  rw [← hn, ← m2_set, ← mc0_set]
  iintro ⟨#HR, Hp, Hs, ⟨%fd, Hd⟩, HO⟩
  iapply (wp_land YA YB K c n 0 hn cr0 1 rfl rfl (hl fd))
  isplitr; · iexact HR
  isplitl [Hp]; · iexact Hp
  isplitl [Hs]; · iexact Hs
  isplitl [Hd]; · iexact Hd
  iexact HO

theorem go1 {Q : α → sProp 𝕄} {k : PUnit → Prog (TpuEff nD τ sig (Elt F) Λ₀ .tc) α} (hn : n = p2 c) {hsc hsrc hdst hsem} :
    iprop(records YA YB K ∗ pre c 1 ∗ arB c (rows (bk' c) 256) (YB c) ∗ (∃ f, cm (p2 c) (rows 256 256) f) ∗ ow c (Ow c 1))
      ⊢ iprop(((mid c 1 ∗ ow c (Ow c 2)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m3 c) (.remote (Dev.tc n : Thread nD τ) mc1 (.dma (sS 1)) hsc) (.dma (rS 1)) hsrc hdst hsem) k) Q) := by
  have hl := fun fd => landed1 YA YB c n hn fd
  rw [← hn, ← m3_set, ← mc1_set]
  iintro ⟨#HR, Hp, Hs, ⟨%fd, Hd⟩, HO⟩
  iapply (wp_land YA YB K c n 1 hn cr1 2 rfl rfl (hl fd))
  isplitr; · iexact HR
  isplitl [Hp]; · iexact Hp
  isplitl [Hs]; · iexact Hs
  isplitl [Hd]; · iexact Hd
  iexact HO

theorem go2 {Q : α → sProp 𝕄} {k : PUnit → Prog (TpuEff nD τ sig (Elt F) Λ₀ .tc) α} (hn : n = p2 c) {hsc hsrc hdst hsem} :
    iprop(records YA YB K ∗ pre c 2 ∗ arA c (rows (qa' c) 128) (a1 YA c) ∗ (∃ f, tm (p2 c) (rowsT 0 128) f) ∗ ow c (Ow c 2))
      ⊢ iprop(((mid c 2 ∗ ow c (Ow c 3)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m5 c) (.remote (Dev.tc n : Thread nD τ) mt0 (.dma (sS 2)) hsc) (.dma (rS 2)) hsrc hdst hsem) k) Q) := by
  have hl := fun fd => landed2 YA YB c n hn fd
  rw [← hn, ← m5_set, ← mt0_set]
  iintro ⟨#HR, Hp, Hs, ⟨%fd, Hd⟩, HO⟩
  iapply (wp_land YA YB K c n 2 hn cr2 3 rfl rfl (hl fd))
  isplitr; · iexact HR
  isplitl [Hp]; · iexact Hp
  isplitl [Hs]; · iexact Hs
  isplitl [Hd]; · iexact Hd
  iexact HO

theorem go3 {Q : α → sProp 𝕄} {k : PUnit → Prog (TpuEff nD τ sig (Elt F) Λ₀ .tc) α} (hn : n = p1 c) {hsc hsrc hdst hsem} :
    iprop(records YA YB K ∗ pre c 3 ∗ arB c (rows (qb' c) 128) (b1 YB c) ∗ (∃ f, tm (p1 c) (rowsT 128 128) f) ∗ ow c (Ow c 3))
      ⊢ iprop(((mid c 3 ∗ ow c (Ow c 4)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m7 c) (.remote (Dev.tc n : Thread nD τ) mt1 (.dma (sS 3)) hsc) (.dma (rS 3)) hsrc hdst hsem) k) Q) := by
  have hl := fun fd => landed3 YA YB c n hn fd
  rw [← hn, ← m7_set, ← mt1_set]
  iintro ⟨#HR, Hp, Hs, ⟨%fd, Hd⟩, HO⟩
  iapply (wp_land YA YB K c n 3 hn cr3 4 rfl rfl (hl fd))
  isplitr; · iexact HR
  isplitl [Hp]; · iexact Hp
  isplitl [Hs]; · iexact Hs
  isplitl [Hd]; · iexact Hd
  iexact HO

theorem go4 {Q : α → sProp 𝕄} {k : PUnit → Prog (TpuEff nD τ sig (Elt F) Λ₀ .tc) α} (hn : n = p2 c) {hsc hsrc hdst hsem} (fd : Vec F S512x1024 .bf16) :
    iprop(records YA YB K ∗ pre c 4 ∗ arA c (rows (qa c) 128) (a2 YA c) ∗ arA (p2 c) (rows (qa c) 128) fd ∗ ow c (Ow c 4))
      ⊢ iprop(((mid c 4 ∗ ow c (Ow c 5)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m9 c) (.remote (Dev.tc n : Thread nD τ) (m9 c) (.dma (sS 4)) hsc) (.dma (rS 4)) hsrc hdst hsem) k) Q) := by
  have hl := landed4 YA YB c n hn fd
  have hs : (((m9 c).view.loc (c : Thread nD τ) ↦[(m9 c).view.set]{fullShare} (a2 YA c)) : sProp 𝕄) ⊢ sPay YA YB c 4 := by
    rw [m9_set]; exact Entails.of_eq rfl
  rw [← hn, ← m9_set]
  iintro ⟨#HR, Hp, Hs, Hd, HO⟩
  iapply (wp_send YA YB K c n 4 hn (cr4 c) 5 rfl hs hl)
  isplitr; · iexact HR
  isplitl [Hp]; · iexact Hp
  isplitl [Hs]; · iexact Hs
  isplitl [Hd]; · iexact Hd
  iexact HO

theorem go5 {Q : α → sProp 𝕄} {k : PUnit → Prog (TpuEff nD τ sig (Elt F) Λ₀ .tc) α} (hn : n = p1 c) {hsc hsrc hdst hsem} (fd : Vec F S512x1024 .bf16) :
    iprop(records YA YB K ∗ pre c 5 ∗ arB c (rows (qb c) 128) (b2 YB c) ∗ arB (p1 c) (rows (qb c) 128) fd ∗ ow c (Ow c 5))
      ⊢ iprop(((mid c 5 ∗ ow c (Ow c 6)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m11 c) (.remote (Dev.tc n : Thread nD τ) (m11 c) (.dma (sS 5)) hsc) (.dma (rS 5)) hsrc hdst hsem) k) Q) := by
  have hl := landed5 YA YB c n hn fd
  have hs : (((m11 c).view.loc (c : Thread nD τ) ↦[(m11 c).view.set]{fullShare} (b2 YB c)) : sProp 𝕄) ⊢ sPay YA YB c 5 := by
    rw [m11_set]; exact Entails.of_eq rfl
  rw [← hn, ← m11_set]
  iintro ⟨#HR, Hp, Hs, Hd, HO⟩
  iapply (wp_send YA YB K c n 5 hn (cr5 c) 6 rfl hs hl)
  isplitr; · iexact HR
  isplitl [Hp]; · iexact Hp
  isplitl [Hs]; · iexact Hs
  isplitl [Hd]; · iexact Hd
  iexact HO

theorem go6 {Q : α → sProp 𝕄} {k : PUnit → Prog (TpuEff nD τ sig (Elt F) Λ₀ .tc) α} (hn : n = p1 c) {hsc hsrc hdst hsem} (fd : Vec F S512x1024 .bf16) :
    iprop(records YA YB K ∗ pre c 6 ∗ arA c (rows (ak c) 256) (kA YA c) ∗ arA (p1 c) (rows (ak c) 256) fd ∗ ow c (Ow c 6))
      ⊢ iprop(((mid c 6 ∗ ow c (Ow c 7)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m12 c) (.remote (Dev.tc n : Thread nD τ) (m12 c) (.dma (sS 6)) hsc) (.dma (rS 6)) hsrc hdst hsem) k) Q) := by
  have hl := landed6 YA YB c n hn fd
  have hs : (((m12 c).view.loc (c : Thread nD τ) ↦[(m12 c).view.set]{fullShare} (kA YA c)) : sProp 𝕄) ⊢ sPay YA YB c 6 := by
    rw [m12_set]; exact Entails.of_eq rfl
  rw [← hn, ← m12_set]
  iintro ⟨#HR, Hp, Hs, Hd, HO⟩
  iapply (wp_send YA YB K c n 6 hn (cr6 c) 7 rfl hs hl)
  isplitr; · iexact HR
  isplitl [Hp]; · iexact Hp
  isplitl [Hs]; · iexact Hs
  isplitl [Hd]; · iexact Hd
  iexact HO

theorem go7 {Q : α → sProp 𝕄} {k : PUnit → Prog (TpuEff nD τ sig (Elt F) Λ₀ .tc) α} (hn : n = p2 c) {hsc hsrc hdst hsem} (fd : Vec F S512x1024 .bf16) :
    iprop(records YA YB K ∗ pre c 7 ∗ arB c (rows (bk c) 256) (kB YB c) ∗ arB (p2 c) (rows (bk c) 256) fd ∗ ow c (Ow c 7))
      ⊢ iprop(((mid c 7 ∗ ow c (Ow c 8)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m13 c) (.remote (Dev.tc n : Thread nD τ) (m13 c) (.dma (sS 7)) hsc) (.dma (rS 7)) hsrc hdst hsem) k) Q) := by
  have hl := landed7 YA YB c n hn fd
  have hs : (((m13 c).view.loc (c : Thread nD τ) ↦[(m13 c).view.set]{fullShare} (kB YB c)) : sProp 𝕄) ⊢ sPay YA YB c 7 := by
    rw [m13_set]; exact Entails.of_eq rfl
  rw [← hn, ← m13_set]
  iintro ⟨#HR, Hp, Hs, Hd, HO⟩
  iapply (wp_send YA YB K c n 7 hn (cr7 c) 8 rfl hs hl)
  isplitr; · iexact HR
  isplitl [Hp]; · iexact Hp
  isplitl [Hs]; · iexact Hs
  isplitl [Hd]; · iexact Hd
  iexact HO

end Go
end

end Cert.Swa
-- ==== Proof.K.RunA.lean ====
module

public import proofs.«01_k».proof.Proof.K.Base

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig Unit (Elt F) ℕ UU ℕ

abbrev cp0 : DmaSem sig := ⟨20, by decide⟩
abbrev cp1 : DmaSem sig := ⟨21, by decide⟩

/-- What the first stretch leaves in `q`, `kb`, `vb`, `wob` and the first row half of the partial product. -/
structure OutA (F : FTy → Type) (c : Dev nD) where
  kb : Bf F c cc0_scratch2
  vb : Bf F c cc0_scratch3
  wob : Bf F c cc0_scratch4
  q : Bf F c cc0_scratch5
  ar : Bf F c cc0_scratch7

set_option maxRecDepth 20000 in
set_option maxHeartbeats 4000000 in
def runA (c : Dev nD) (fx : Bf F c cc0_stg0_0) (fw : Bf F c cc0_stg1_0) (fo : Bf F c cc0_stg2_0) (fK : Bf F c main_arg2) (fV : Bf F c main_arg3) :
    { r : OutA F c // ∀ (O : CellTallies nD τ sig Unit) (W : Waits sig Unit) (Lv : sProp 𝕄)
        (_hm0 : ∀ O', O' = O → (Lv ⊢ MayWait (c : Thread nD τ) (.dma cp0) () O')) (_hm1 : ∀ O', O' = O → (Lv ⊢ MayWait (c : Thread nD τ) (.dma cp1) () O'))
        (R : IVec S512x1024 32 → IVec S512x1024 32 → Prog (TpuEff nD τ sig (Elt F) Λ₀ .tc) (FVec F S512x1024 .f32))
        (v4 : BitVec 32) (Q : FVec F S512x1024 .f32 → sProp 𝕄),
      iprop(pt c cc0_stg0_0 fx ∗ pt c cc0_stg1_0 fw ∗ pt c cc0_stg2_0 fo ∗ pt c main_arg2 fK ∗ pt c main_arg3 fV
          ∗ (∃ f, pt c cc0_scratch0 f) ∗ (∃ f, pt c cc0_scratch1 f) ∗ (∃ f, pt c cc0_scratch2 f) ∗ (∃ f, pt c cc0_scratch3 f) ∗ (∃ f, pt c cc0_scratch4 f)
          ∗ (∃ f, pt c cc0_scratch5 f) ∗ (∃ f, pt c cc0_scratch6 f) ∗ (∃ f, pt c cc0_scratch7 f)
          ∗ semVal ((c : Thread nD τ), SemLoc.dma cp0) 0 ∗ semVal ((c : Thread nD τ), SemLoc.dma cp1) 0
          ∗ owes (c : Thread nD τ) O W ∗ □ Lv
          ∗ (iprop(pt c cc0_stg0_0 fx ∗ pt c cc0_stg1_0 fw ∗ pt c cc0_stg2_0 fo ∗ pt c main_arg2 fK ∗ pt c main_arg3 fV
              ∗ (∃ f, pt c cc0_scratch0 f) ∗ (∃ f, pt c cc0_scratch1 f) ∗ pt c cc0_scratch2 r.kb ∗ pt c cc0_scratch3 r.vb ∗ pt c cc0_scratch4 r.wob
              ∗ pt c cc0_scratch5 r.q ∗ (∃ f, pt c cc0_scratch6 f) ∗ pt c cc0_scratch7 r.ar
              ∗ semVal ((c : Thread nD τ), SemLoc.dma cp0) 0 ∗ semVal ((c : Thread nD τ), SemLoc.dma cp1) 0
              ∗ owes (c : Thread nD τ) O (insert (SemLoc.dma cp1, ()) (insert (SemLoc.dma cp0, ()) W)))
            -∗ wp frame (wpE (defs₀ (F := F)) 𝒱₀ c none) Set.univ (R (iota .tc S512x1024 32 [0] iota_S512x1024_d0_w32) (iota .tc S512x1024 32 [1] iota_S512x1024_d1_w32)) Q))
        ⊢ wp frame (wpE (defs₀ (F := F)) 𝒱₀ c none) Set.univ (do
            let v99 : FVec F S1024x8x128 .bf16 ← k0_part3 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c
            let ⟨v112, v113, v119, v132⟩ : Σ' (v112 : IVec S512x1024 32) (v113 : IVec S512x1024 32) (v119 : IVec S512x1024 1), FVec F S512x1024 .f32 ← k0_part4 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v99
            let v169 : FVec F S512x128 .f32 ← k0_part5 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v119 v132
            let ⟨v201, v203⟩ : Σ' (v201 : Vec F S512x128 .bf16), FVec F S1024x128 .bf16 ← k0_part6 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v119 v169
            let v240 : FVec F S512x1024 .f32 ← k0_part7 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v119 v201 v203
            let v277 : FVec F S512x128 .f32 ← k0_part8 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v119 v240
            let ⟨v309, v311⟩ : Σ' (v309 : Vec F S512x128 .bf16), FVec F S1024x128 .bf16 ← k0_part9 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v119 v277
            k0_part10 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v4 v119 v309 v311
            R v112 v113) Q } := by
  refine ⟨⟨?_, ?_, ?_, ?_, ?_⟩, fun O W Lv hm0 hm1 R v4 Q => ?run⟩
  case run =>
    iintro ⟨Hx, Hw, Ho, HK, HV, ⟨%f0, H0⟩, ⟨%f1, H1⟩, ⟨%f2, H2⟩, ⟨%f3, H3⟩, ⟨%f4, H4⟩, ⟨%f5, H5⟩, ⟨%f6, H6⟩, ⟨%f7, H7⟩, Hs0, Hs1, HO, #HL, Hk⟩
    set_option sl_exec.maxSteps 12 in sl_exec!
    have h0 : ∀ (f w : Bf F c cc0_scratch0), View.write (Elt F) (Memref.whole cc0_scratch0).view f w Finset.univ = w := fun f w => View.write_whole_univ (Val := Elt F) cc0_scratch0 f w
    have h1 : ∀ (f w : Bf F c cc0_scratch1), View.write (Elt F) (Memref.whole cc0_scratch1).view f w Finset.univ = w := fun f w => View.write_whole_univ (Val := Elt F) cc0_scratch1 f w
    rw [h0, h1]
    sl_exec!
    iapply Hk
    isplitl [Hx]; · iexact Hx
    isplitl [Hw]; · iexact Hw
    isplitl [Ho]; · iexact Ho
    isplitl [HK]; · iexact HK
    isplitl [HV]; · iexact HV
    isplitl [H0]; · iexists _; iexact H0
    isplitl [H1]; · iexists _; iexact H1
    isplitl [H2]; · iexact H2
    isplitl [H3]; · iexact H3
    isplitl [H4]; · iexact H4
    isplitl [H5]; · iexact H5
    isplitl [H6]; · iexists _; iexact H6
    isplitl [H7]; · iexact H7
    isplitl [Hs0]; · iexact Hs0
    isplitl [Hs1]; · iexact Hs1
    iexact HO

end Cert.Swa
-- ==== Proof.K.RunB.lean ====
module

public import proofs.«01_k».proof.Proof.K.RunA

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig Unit (Elt F) ℕ UU ℕ

/-- What follows the second row half's store in its part: the second copy's start and the wait for the first's source. -/
def restB (c : Dev nD) : Prog (TpuEff nD τ sig (Elt F) Λ₀ .tc) PUnit :=
  .op (.enqueueDma ((Memref.whole cc0_scratch8).slice (Rect.unit (s := S512x1024) (k0_off3 c) S256x1024.size (k0_off3_inb c)) (fun _ => rfl))
    (.remote (Dev.tc (⟨k0_dev4 c, k0_dev4_lt c⟩ : Dev nD)) ((Memref.whole cc0_scratch9).slice (Rect.unit (s := S512x1024) ![256, 0] S256x1024.size inb_S512x1024_S256x1024_256_0) (fun _ => rfl))
      (.dma ((cc0_scratch11.slice (Rect.unit (s := S8) ![1] S1.size inb_S8_S1_1)).squeeze S_ squeezes_S1_S_).sem))
    (.dma ((cc0_scratch12.slice (Rect.unit (s := S8) ![1] S1.size inb_S8_S1_1)).squeeze S_ squeezes_S1_S_).sem)
    ((Memref.isWhole_whole _).wordExact_slice rfl _ (k0_off3_wordsbf16 c)) ((Memref.isWhole_whole _).wordExact_slice rfl _ wordsbf16_S512x1024_S256x1024_256_0) ⟨⟨rfl, Or.inl rfl⟩, trivial⟩) fun _ =>
  .op (.waitDma2 ((cc0_scratch11.slice (Rect.unit (s := S8) ![0] S1.size inb_S8_S1_0)).squeeze S_ squeezes_S1_S_).sem
    ((Memref.whole cc0_scratch9).slice (Rect.unit (s := S512x1024) ![0, 0] S256x1024.size inb_S512x1024_S256x1024_0_0) (fun _ => rfl))
    ((Memref.whole cc0_scratch7).slice (Rect.unit (s := S512x1024) (k0_off2 c) S256x1024.size (k0_off2_inb c)) (fun _ => rfl))
    ((Memref.isWhole_whole _).wordExact_slice rfl _ wordsbf16_S512x1024_S256x1024_0_0) ((Memref.isWhole_whole _).wordExact_slice rfl _ (k0_off2_wordsbf16 c))) fun _ => .ret ⟨⟩

set_option maxRecDepth 20000 in
set_option maxHeartbeats 400000 in
def runB (c : Dev nD) (fkb : Bf F c cc0_scratch2) (fvb : Bf F c cc0_scratch3) (fwob : Bf F c cc0_scratch4) (fq : Bf F c cc0_scratch5)
    (v356 : IVec S512x1024 1) (v383 : FVec F S512x128 .bf16) :
    { r : Bf F c cc0_scratch8 // ∀ (R : PUnit.{1} → Prog (TpuEff nD τ sig (Elt F) Λ₀ .tc) (FVec F S512x1024 .f32)) (v5 : BitVec 32) (Q : FVec F S512x1024 .f32 → sProp 𝕄),
      iprop(pt c cc0_scratch2 fkb ∗ pt c cc0_scratch3 fvb ∗ pt c cc0_scratch4 fwob ∗ pt c cc0_scratch5 fq
          ∗ (∃ f, pt c cc0_scratch6 f) ∗ (∃ f, pt c cc0_scratch8 f)
          ∗ (iprop(pt c cc0_scratch2 fkb ∗ pt c cc0_scratch3 fvb ∗ pt c cc0_scratch4 fwob ∗ pt c cc0_scratch5 fq
              ∗ (∃ f, pt c cc0_scratch6 f) ∗ pt c cc0_scratch8 r)
            -∗ wp frame (wpE (defs₀ (F := F)) 𝒱₀ c none) Set.univ (restB c) (fun _ => wp frame (wpE (defs₀ (F := F)) 𝒱₀ c none) Set.univ (R ⟨⟩) Q)))
        ⊢ wp frame (wpE (defs₀ (F := F)) 𝒱₀ c none) Set.univ (do
            let ⟨v416, cst_252⟩ : Σ' (v416 : FVec F S512x1024 .f32), F .f32 ← k0_part12 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v383
            let ⟨v450, v455⟩ : Σ' (v450 : FVec F S512x1024 .f32), FVec F S512x1024 .f32 ← k0_part13 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v416 cst_252
            let v491 : FVec F S512x128 .bf16 ← k0_part14 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v450 v455
            let ⟨v524, cst_320⟩ : Σ' (v524 : FVec F S512x1024 .f32), F .f32 ← k0_part15 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v491
            let ⟨v558, v563⟩ : Σ' (v558 : FVec F S512x1024 .f32), FVec F S512x1024 .f32 ← k0_part16 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v524 cst_320
            k0_part17 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v5 v558 v563
            R ⟨⟩) Q } := by
  unfold restB
  refine ⟨?_, fun R v5 Q => ?run⟩
  case run =>
    iintro ⟨H2, H3, H4, H5, ⟨%f6, H6⟩, ⟨%f8, H8⟩, Hk⟩
    sl_exec!
    iapply Hk
    isplitl [H2]; · iexact H2
    isplitl [H3]; · iexact H3
    isplitl [H4]; · iexact H4
    isplitl [H5]; · iexact H5
    isplitl [H6]; · iexists _; iexact H6
    iexact H8

end Cert.Swa
-- ==== Proof.K.Parts.lean ====
/-
# The parts of the body that talk

Each part of the printed body that signals, waits or copies, run once at a symbolic device `c`: what it takes and what it leaves.
-/
module

public import proofs.«01_k».proof.Proof.K.AddStep
public import proofs.«01_k».proof.Proof.K.Copies
public import proofs.«01_k».proof.Proof.K.RunB

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (YA YB : Dev nD → Vec F S512x1024 .bf16) (K : Dev nD × CI → ℕ) (c : Dev nD)

/-- Device `c`'s share of the handshake. -/
def barPre : sProp 𝕄 :=
  iprop(atPos ER (barCell c) 0 ∅ 0 ∗ dutyTok ER (barCell (p1 c)) 0 false ∗ dutyTok ER (barCell (p2 c)) 0 true ∗ cred (tallyAt (barCell c) () 2))

/-! ## Rows joined -/

theorem joinA : iprop(arA c (rows (qa c) 128) (a2 YA c) ∗ arA c (rows (qa (p2 c)) 128) (a2 YA (p2 c))) ⊢ arA c (rows (ak c) 256) (kA YA c) := by
  rw [qa_p2, ← rows_union_qa c]
  exact pointsTo_join (rows_disj_qa c)
theorem joinB : iprop(arB c (rows (qb c) 128) (b2 YB c) ∗ arB c (rows (qb (p1 c)) 128) (b2 YB (p1 c))) ⊢ arB c (rows (bk c) 256) (kB YB c) := by
  rw [qb_p1, ← rows_union_qb c]
  exact pointsTo_join (rows_disj_qb c)
theorem joinFA : iprop(arA c (rows (ak c) 256) (kA YA c) ∗ arA c (rows (ak (p1 c)) 256) (kA YA (p1 c))) ⊢ arA c Finset.univ (fA YA c) := by
  rw [ak_p1, ← rows_union_a c]
  exact pointsTo_join (rows_disj_a c)
theorem joinFB : iprop(arB c (rows (bk c) 256) (kB YB c) ∗ arB c (rows (bk (p2 c)) 256) (kB YB (p2 c))) ⊢ arB c Finset.univ (fB YB c) := by
  rw [bk_p2, ← rows_union_b c]
  exact pointsTo_join (rows_disj_b c)

set_option maxRecDepth 65536 in
set_option maxHeartbeats 1000000 in
theorem part2_run (v2 v4 v5 v9 v26 v27 : BitVec 32) (v38 : BitVec 1) (v39 : BitVec 32) {Q : (Σ' (v53 : BitVec 32) (v54 : BitVec 32) (v57 : BitVec 32) (v61 : BitVec 32), BitVec 32) → sProp 𝕄} :
    iprop(records YA YB K ∗ levAts L lv ∗ barPre c ∗ ow c (O₀ c) ∗ iprop((∃ f, cm c (rows 0 256) f) ∗ ∃ f, cm c (rows 256 256) f) ∗ iprop((∃ f, tm c (rowsT 0 128) f) ∗ ∃ f, tm c (rowsT 128 128) f) ∗ (∀ v, iprop(atPos ER (barCell c) 1 ∅ 0 ∗ ow c (Ow c 0) ∗ barPayF c ∗ barPayT c) -∗ Q v))
      ⊢ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v2 v4 v5 v9 v26 v27 v38 v39) Q := by
  rw [k0_part2_eq_skeleton]
  unfold k0_part2_skel
  simp only [Prog.lift, Prog.bind_op, Prog.bind_ret, Prog.pure_eq_ret, Prog.bind_assoc, semSignalWord, semWaitWord]
  rw [show (⟨k0_dev1 c, k0_dev1_lt c⟩ : Dev nD) = p1 c from dev1_eq c, show (⟨k0_dev2 c, k0_dev2_lt c⟩ : Dev nD) = p2 c from dev2_eq c]
  unfold barPre ow
  iintro ⟨#HR, #HL, ⟨Hat, Ht1, Ht2, Hc⟩, ⟨%W, HO⟩, ⟨Hc0, Hc1⟩, ⟨Hb0, Hb1⟩, Hk⟩
  unfold O₀
  iapply (Rounds.wp_signal 𝒱₀ ER (Rd YA YB) (c : Thread nD τ) none (dst := (p1 c : Thread nD τ)) (κ := K (cb (p1 c)))
      (d := false) (by rw [duties_bar]; exact Finset.mem_univ _) ((amount_bar YA YB (p1 c) false).trans (by decide)) () (O₁ c) rfl)
    $$ [HO Ht1 Hc0 Hb1]
  · isplitr; · iapply (inv_at YA YB K (cb (p1 c))); iexact HR
    isplitl [HO]; · iexact HO
    isplitl [Ht1]; · iexact Ht1
    isplitl [Hc0 Hb1]
    · rw [payload_barF]; unfold barPayF; rw [p1_p1]
      isplitl [Hc0]; · iexact Hc0
      iexact Hb1
    · iapply (reached_at YA YB K (cb (p1 c))); iexact HR
  iintro HO
  unfold O₁
  iapply (Rounds.wp_signal 𝒱₀ ER (Rd YA YB) (c : Thread nD τ) none (dst := (p2 c : Thread nD τ)) (κ := K (cb (p2 c)))
      (d := true) (by rw [duties_bar]; exact Finset.mem_univ _) ((amount_bar YA YB (p2 c) true).trans (by decide)) () (Ow c 0) rfl)
    $$ [HO Ht2 Hc1 Hb0]
  · isplitr; · iapply (inv_at YA YB K (cb (p2 c))); iexact HR
    isplitl [HO]; · iexact HO
    isplitl [Ht2]; · iexact Ht2
    isplitl [Hc1 Hb0]
    · rw [payload_barT]; unfold barPayT; rw [p2_p2]
      isplitl [Hc1]; · iexact Hc1
      iexact Hb0
    · iapply (reached_at YA YB K (cb (p2 c))); iexact HR
  iintro HO
  iapply (Rounds.wp_wait_rest_token 𝒱₀ ER (Rd YA YB) (c : Thread nD τ) none (κ := K (cb c))
      (wpE_semWait_eq 𝒱₀ (c : Thread nD τ) none Set.univ) (Set.mem_univ _) () (O := Ow c 0) (W := W) (R := 0) (m := 0) (T := ∅)
      (by rw [expect_bar]; decide)) $$ [Hc HO Hat]
  · isplitr; · iapply (inv_at YA YB K (cb c)); iexact HR
    isplitl [Hc]; · iexact Hc
    isplitl [HO]; · iexact HO
    isplitr; · iapply (mayWait_Ow c (.reg barS) 0 (by rw [lvS_bar]; decide)); iexact HL
    iexact Hat
  iintro ⟨HO, Hat, -, Hpay⟩
  ihave Hp := (Entails.of_eq (rest_bar YA YB c)) $$ Hpay
  icases Hp with ⟨Hf, Ht⟩
  rw [wp_ret]
  imodintro
  iapply Hk
  isplitl [Hat]; · iexact Hat
  isplitl [HO]; · iexists _; iexact HO
  isplitl [Hf]; · iexact Hf
  iexact Ht

set_option maxRecDepth 65536 in
set_option maxHeartbeats 1000000 in
theorem part18_run (v4 v5 v26 v54 : BitVec 32) {Q : BitVec 32 → sProp 𝕄} :
    iprop(records YA YB K ∗ levAts L lv ∗ mid' c 0 ∗ mid c 1 ∗ pre c 2 ∗ ow c (Ow c 2) ∗ arA c (rows (ak c) 256) (YA c) ∗ (∃ f, tm (p2 c) (rowsT 0 128) f) ∗ (∀ v, iprop(fin c 0 ∗ mid' c 1 ∗ mid c 2 ∗ ow c (Ow c 3) ∗ arA c (rows (qa c) 128) (a1 YA c) ∗ arA (p1 c) (rows (ak' (p1 c)) 256) (YA (p1 c)) ∗ (∃ f, cm c (rows 0 256) f)) -∗ Q v))
      ⊢ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v26 v54) Q := by
  rw [k0_part18_eq_skeleton]
  unfold k0_part18_skel
  simp only [Prog.lift, Prog.bind_op, Prog.bind_ret, Prog.pure_eq_ret, Prog.bind_assoc, semSignalWord, semWaitWord]
  iintro ⟨#HR, #HL, Hm0, Hm1, Hm2, HO, Ha, Ht, Hk⟩
  iapply (wp_wait_r YA YB K c 0 2 (by decide) cr0) $$ [Hm0 HO]
  · isplitr; · iexact HR
    isplitr; · iexact HL
    isplitl [Hm0]; · iexact Hm0
    iexact HO
  iintro ⟨Hm0, HO, Hp⟩
  ihave Hq := (Entails.of_eq (show rPay YA YB c 0 = iprop(in0 YA c ∗ arA (p1 c) (rows (ak' (p1 c)) 256) (YA (p1 c))) from rfl)) $$ Hp
  unfold in0
  icases Hq with ⟨⟨%f, Hcm⟩, Hy⟩
  iapply (wp_add (F := F) c (m := Memref.whole cc0_scratch7) (r := Rect.unit (s := S512x1024) (k0_off4 c) S256x1024.size (k0_off4_inb c)) (m' := Memref.whole cc0_scratch9) (r' := Rect.unit (s := S512x1024) ![0, 0] S256x1024.size inb_S512x1024_S256x1024_0_0) (pay := k0_pay40) (f := YA c) (h := a1 YA c) (S := rows (ak c) 256) (S' := rows 0 256) (Finset.Subset.antisymm_iff.mp ((View.set_slice_whole _ _).trans (set_rows _ _ _ (off4_eq c) _))).1 (Finset.Subset.antisymm_iff.mp mc0_set).1 (add0 YA c f)) $$ [Ha Hcm]
  · isplitl [Ha]; · iexact Ha
    iexact Hcm
  iintro ⟨Ha, Hcm⟩
  ihave Hs := (Entails.of_eq (congrArg (fun S => arA c S (a1 YA c)) (rows_union_qa c).symm)) $$ Ha
  ihave Hs2 := (pointsTo_union (rows_disj_qa c)).1 $$ Hs
  icases Hs2 with ⟨Ha, Hb⟩
  iapply (go2 YA YB K c _ (dev5_eq c)) $$ [Hm2 Hb Ht HO]
  · isplitr; · iexact HR
    isplitl [Hm2]; · iexact Hm2
    isplitl [Hb]; · iexact Hb
    isplitl [Ht]; · iexact Ht
    iexact HO
  iintro ⟨Hm2, HO⟩
  iapply (wp_wait_s YA YB K c 1 3 (cr1' c)) $$ [Hm1 HO]
  · isplitr; · iexact HR
    isplitr; · iexact HL
    isplitl [Hm1]; · iexact Hm1
    iexact HO
  iintro ⟨Hm1, HO, -⟩
  rw [wp_ret]
  imodintro
  iapply Hk
  isplitl [Hm0]; · iexact Hm0
  isplitl [Hm1]; · iexact Hm1
  isplitl [Hm2]; · iexact Hm2
  isplitl [HO]; · iexact HO
  isplitl [Ha]; · iexact Ha
  isplitl [Hy]; · iexact Hy
  iexists _; iexact Hcm

set_option maxRecDepth 65536 in
set_option maxHeartbeats 1000000 in
theorem part19_run (v4 v5 v53 v57 w : BitVec 32) {Q : BitVec 32 → sProp 𝕄} :
    iprop(records YA YB K ∗ levAts L lv ∗ mid' c 1 ∗ mid c 2 ∗ pre c 3 ∗ ow c (Ow c 3) ∗ arB c (rows (bk c) 256) (YB c) ∗ (∃ f, tm (p1 c) (rowsT 128 128) f) ∗ (∀ v, iprop(fin c 1 ∗ mid' c 2 ∗ mid c 3 ∗ ow c (Ow c 4) ∗ arB c (rows (qb c) 128) (b1 YB c) ∗ arB (p2 c) (rows (bk' (p2 c)) 256) (YB (p2 c)) ∗ (∃ f, cm c (rows 256 256) f)) -∗ Q v))
      ⊢ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v53 v57 w) Q := by
  rw [k0_part19_eq_skeleton]
  unfold k0_part19_skel
  simp only [Prog.lift, Prog.bind_op, Prog.bind_ret, Prog.pure_eq_ret, Prog.bind_assoc, semSignalWord, semWaitWord]
  iintro ⟨#HR, #HL, Hm1, Hm2, Hm3, HO, Ha, Ht, Hk⟩
  iapply (wp_wait_r YA YB K c 1 3 (by decide) cr1) $$ [Hm1 HO]
  · isplitr; · iexact HR
    isplitr; · iexact HL
    isplitl [Hm1]; · iexact Hm1
    iexact HO
  iintro ⟨Hm1, HO, Hp⟩
  ihave Hq := (Entails.of_eq (show rPay YA YB c 1 = iprop(in1 YB c ∗ arB (p2 c) (rows (bk' (p2 c)) 256) (YB (p2 c))) from rfl)) $$ Hp
  unfold in1
  icases Hq with ⟨⟨%f, Hcm⟩, Hy⟩
  iapply (wp_add (F := F) c (m := Memref.whole cc0_scratch8) (r := Rect.unit (s := S512x1024) (k0_off6 c) S256x1024.size (k0_off6_inb c)) (m' := Memref.whole cc0_scratch9) (r' := Rect.unit (s := S512x1024) ![256, 0] S256x1024.size inb_S512x1024_S256x1024_256_0) (pay := k0_pay41) (f := YB c) (h := b1 YB c) (S := rows (bk c) 256) (S' := rows 256 256) (Finset.Subset.antisymm_iff.mp ((View.set_slice_whole _ _).trans (set_rows _ _ _ (off6_eq c) _))).1 (Finset.Subset.antisymm_iff.mp mc1_set).1 (add1 YB c f)) $$ [Ha Hcm]
  · isplitl [Ha]; · iexact Ha
    iexact Hcm
  iintro ⟨Ha, Hcm⟩
  ihave Hs := (Entails.of_eq (congrArg (fun S => arB c S (b1 YB c)) (rows_union_qb c).symm)) $$ Ha
  ihave Hs2 := (pointsTo_union (rows_disj_qb c)).1 $$ Hs
  icases Hs2 with ⟨Ha, Hb⟩
  iapply (go3 YA YB K c _ (dev6_eq c)) $$ [Hm3 Hb Ht HO]
  · isplitr; · iexact HR
    isplitl [Hm3]; · iexact Hm3
    isplitl [Hb]; · iexact Hb
    isplitl [Ht]; · iexact Ht
    iexact HO
  iintro ⟨Hm3, HO⟩
  iapply (wp_wait_s YA YB K c 2 4 (cr2' c)) $$ [Hm2 HO]
  · isplitr; · iexact HR
    isplitr; · iexact HL
    isplitl [Hm2]; · iexact Hm2
    iexact HO
  iintro ⟨Hm2, HO, -⟩
  rw [wp_ret]
  imodintro
  iapply Hk
  isplitl [Hm1]; · iexact Hm1
  isplitl [Hm2]; · iexact Hm2
  isplitl [Hm3]; · iexact Hm3
  isplitl [HO]; · iexact HO
  isplitl [Ha]; · iexact Ha
  isplitl [Hy]; · iexact Hy
  iexists _; iexact Hcm

set_option maxRecDepth 65536 in
set_option maxHeartbeats 1000000 in
theorem part20_run (v4 v5 v61 w : BitVec 32) {Q : PUnit → sProp 𝕄} :
    iprop(records YA YB K ∗ levAts L lv ∗ mid' c 2 ∗ mid c 3 ∗ pre c 4 ∗ ow c (Ow c 4) ∗ arA c (rows (qa c) 128) (a1 YA c) ∗ (∀ v, iprop(fin c 2 ∗ mid' c 3 ∗ mid c 4 ∗ ow c (Ow c 5) ∗ (∃ f, tm c (rowsT 0 128) f)) -∗ Q v))
      ⊢ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v61 w) Q := by
  rw [k0_part20_eq_skeleton]
  unfold k0_part20_skel
  simp only [Prog.lift, Prog.bind_op, Prog.bind_ret, Prog.pure_eq_ret, Prog.bind_assoc, semSignalWord, semWaitWord]
  iintro ⟨#HR, #HL, Hm2, Hm3, Hm4, HO, Ha, Hk⟩
  iapply (wp_wait_r YA YB K c 2 4 (by decide) cr2) $$ [Hm2 HO]
  · isplitr; · iexact HR
    isplitr; · iexact HL
    isplitl [Hm2]; · iexact Hm2
    iexact HO
  iintro ⟨Hm2, HO, Hp⟩
  ihave Hq := (Entails.of_eq (show rPay YA YB c 2 = iprop(in2 YA c ∗ arA (p2 c) (rows (qa' (p2 c)) 128) (a1 YA (p2 c))) from rfl)) $$ Hp
  rw [qa'_p2]
  unfold in2
  icases Hq with ⟨⟨%f, Hcm⟩, Hy⟩
  iapply (wp_add (F := F) c (m := Memref.whole cc0_scratch7) (r := Rect.unit (s := S512x1024) (k0_off8 c) S128x1024.size (k0_off8_inb c)) (m' := Memref.whole cc0_scratch10) (r' := Rect.unit (s := S256x1024) ![0, 0] S128x1024.size inb_S256x1024_S128x1024_0_0) (pay := k0_pay42) (f := a1 YA c) (h := a2 YA c) (S := rows (qa c) 128) (S' := rowsT 0 128) (Finset.Subset.antisymm_iff.mp ((View.set_slice_whole _ _).trans (set_rows _ _ _ (off8_eq c) _))).1 (Finset.Subset.antisymm_iff.mp mt0_set).1 (add2 YA c f)) $$ [Ha Hcm]
  · isplitl [Ha]; · iexact Ha
    iexact Hcm
  iintro ⟨Ha, Hcm⟩
  iapply (go4 YA YB K c _ (dev7_eq c) _) $$ [Hm4 Ha Hy HO]
  · isplitr; · iexact HR
    isplitl [Hm4]; · iexact Hm4
    isplitl [Ha]; · iexact Ha
    isplitl [Hy]; · iexact Hy
    iexact HO
  iintro ⟨Hm4, HO⟩
  iapply (wp_wait_s YA YB K c 3 5 (cr3' c)) $$ [Hm3 HO]
  · isplitr; · iexact HR
    isplitr; · iexact HL
    isplitl [Hm3]; · iexact Hm3
    iexact HO
  iintro ⟨Hm3, HO, -⟩
  rw [wp_ret]
  imodintro
  iapply Hk
  isplitl [Hm2]; · iexact Hm2
  isplitl [Hm3]; · iexact Hm3
  isplitl [Hm4]; · iexact Hm4
  isplitl [HO]; · iexact HO
  iexists _; iexact Hcm

set_option maxRecDepth 65536 in
set_option maxHeartbeats 1000000 in
theorem part21_run (v4 v5 v63 : BitVec 32) {Q : PUnit → sProp 𝕄} :
    iprop(records YA YB K ∗ levAts L lv ∗ mid' c 3 ∗ mid c 4 ∗ pre c 5 ∗ ow c (Ow c 5) ∗ arB c (rows (qb c) 128) (b1 YB c) ∗ (∀ v, iprop(fin c 3 ∗ fin c 4 ∗ mid c 5 ∗ ow c (Ow c 6) ∗ arA c (rows (ak c) 256) (kA YA c) ∗ (∃ f, tm c (rowsT 128 128) f)) -∗ Q v))
      ⊢ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v63) Q := by
  rw [k0_part21_eq_skeleton]
  unfold k0_part21_skel
  simp only [Prog.lift, Prog.bind_op, Prog.bind_ret, Prog.pure_eq_ret, Prog.bind_assoc, semSignalWord, semWaitWord]
  iintro ⟨#HR, #HL, Hm3, Hm4, Hm5, HO, Ha, Hk⟩
  iapply (wp_wait_r YA YB K c 3 5 (by decide) cr3) $$ [Hm3 HO]
  · isplitr; · iexact HR
    isplitr; · iexact HL
    isplitl [Hm3]; · iexact Hm3
    iexact HO
  iintro ⟨Hm3, HO, Hp⟩
  ihave Hq := (Entails.of_eq (show rPay YA YB c 3 = iprop(in3 YB c ∗ arB (p1 c) (rows (qb' (p1 c)) 128) (b1 YB (p1 c))) from rfl)) $$ Hp
  rw [qb'_p1]
  unfold in3
  icases Hq with ⟨⟨%f, Hcm⟩, Hy⟩
  iapply (wp_add (F := F) c (m := Memref.whole cc0_scratch8) (r := Rect.unit (s := S512x1024) (k0_off10 c) S128x1024.size (k0_off10_inb c)) (m' := Memref.whole cc0_scratch10) (r' := Rect.unit (s := S256x1024) ![128, 0] S128x1024.size inb_S256x1024_S128x1024_128_0) (pay := k0_pay43) (f := b1 YB c) (h := b2 YB c) (S := rows (qb c) 128) (S' := rowsT 128 128) (Finset.Subset.antisymm_iff.mp ((View.set_slice_whole _ _).trans (set_rows _ _ _ (off10_eq c) _))).1 (Finset.Subset.antisymm_iff.mp mt1_set).1 (add3 YB c f)) $$ [Ha Hcm]
  · isplitl [Ha]; · iexact Ha
    iexact Hcm
  iintro ⟨Ha, Hcm⟩
  iapply (go5 YA YB K c _ (dev8_eq c) _) $$ [Hm5 Ha Hy HO]
  · isplitr; · iexact HR
    isplitl [Hm5]; · iexact Hm5
    isplitl [Ha]; · iexact Ha
    isplitl [Hy]; · iexact Hy
    iexact HO
  iintro ⟨Hm5, HO⟩
  iapply (wp_wait_s YA YB K c 4 6 (cr4 c)) $$ [Hm4 HO]
  · isplitr; · iexact HR
    isplitr; · iexact HL
    isplitl [Hm4]; · iexact Hm4
    iexact HO
  iintro ⟨Hm4, HO, Hs0⟩
  ihave Hs := (Entails.of_eq (show sPay YA YB c 4 = arA c (rows (qa c) 128) (a2 YA c) from rfl)) $$ Hs0
  iapply (wp_wait_r YA YB K c 4 6 (by decide) (cr4 c)) $$ [Hm4 HO]
  · isplitr; · iexact HR
    isplitr; · iexact HL
    isplitl [Hm4]; · iexact Hm4
    iexact HO
  iintro ⟨Hm4, HO, Hp0⟩
  ihave Hp := (Entails.of_eq (show rPay YA YB c 4 = arA c (rows (qa (p2 c)) 128) (a2 YA (p2 c)) from rfl)) $$ Hp0
  ihave Hj := (joinA YA c) $$ [Hs Hp]
  · isplitl [Hs]; · iexact Hs
    iexact Hp
  rw [wp_ret]
  imodintro
  iapply Hk
  isplitl [Hm3]; · iexact Hm3
  isplitl [Hm4]; · iexact Hm4
  isplitl [Hm5]; · iexact Hm5
  isplitl [HO]; · iexact HO
  isplitl [Hj]; · iexact Hj
  iexists _; iexact Hcm

set_option maxRecDepth 65536 in
set_option maxHeartbeats 1000000 in
theorem part22_run (v4 v5 : BitVec 32) {Q : BitVec 32 → sProp 𝕄} :
    iprop(records YA YB K ∗ levAts L lv ∗ mid c 5 ∗ pre c 6 ∗ pre c 7 ∗ ow c (Ow c 6) ∗ arA c (rows (ak c) 256) (kA YA c) ∗ arA (p1 c) (rows (ak' (p1 c)) 256) (YA (p1 c)) ∗ arB (p2 c) (rows (bk' (p2 c)) 256) (YB (p2 c)) ∗ (∀ v, iprop(fin c 5 ∗ mid' c 6 ∗ mid c 7 ∗ ow c (Ow c 8) ∗ arA c (rows (ak c) 256) (kA YA c)) -∗ Q v))
      ⊢ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5) Q := by
  rw [k0_part22_eq_skeleton]
  unfold k0_part22_skel
  simp only [Prog.lift, Prog.bind_op, Prog.bind_ret, Prog.pure_eq_ret, Prog.bind_assoc, semSignalWord, semWaitWord]
  rw [ak'_p1, bk'_p2]
  iintro ⟨#HR, #HL, Hm5, Hm6, Hm7, HO, Ha, Hya, Hyb, Hk⟩
  iapply (go6 YA YB K c _ (dev9_eq c) _) $$ [Hm6 Ha Hya HO]
  · isplitr; · iexact HR
    isplitl [Hm6]; · iexact Hm6
    isplitl [Ha]; · iexact Ha
    isplitl [Hya]; · iexact Hya
    iexact HO
  iintro ⟨Hm6, HO⟩
  iapply (wp_wait_s YA YB K c 5 7 (cr5 c)) $$ [Hm5 HO]
  · isplitr; · iexact HR
    isplitr; · iexact HL
    isplitl [Hm5]; · iexact Hm5
    iexact HO
  iintro ⟨Hm5, HO, Hs0⟩
  ihave Hs := (Entails.of_eq (show sPay YA YB c 5 = arB c (rows (qb c) 128) (b2 YB c) from rfl)) $$ Hs0
  iapply (wp_wait_r YA YB K c 5 7 (by decide) (cr5 c)) $$ [Hm5 HO]
  · isplitr; · iexact HR
    isplitr; · iexact HL
    isplitl [Hm5]; · iexact Hm5
    iexact HO
  iintro ⟨Hm5, HO, Hp0⟩
  ihave Hp := (Entails.of_eq (show rPay YA YB c 5 = arB c (rows (qb (p1 c)) 128) (b2 YB (p1 c)) from rfl)) $$ Hp0
  ihave Hj := (joinB YB c) $$ [Hs Hp]
  · isplitl [Hs]; · iexact Hs
    iexact Hp
  iapply (go7 YA YB K c _ (dev10_eq c) _) $$ [Hm7 Hj Hyb HO]
  · isplitr; · iexact HR
    isplitl [Hm7]; · iexact Hm7
    isplitl [Hj]; · iexact Hj
    isplitl [Hyb]; · iexact Hyb
    iexact HO
  iintro ⟨Hm7, HO⟩
  iapply (wp_wait_s YA YB K c 6 8 (cr6 c)) $$ [Hm6 HO]
  · isplitr; · iexact HR
    isplitr; · iexact HL
    isplitl [Hm6]; · iexact Hm6
    iexact HO
  iintro ⟨Hm6, HO, Hs0⟩
  ihave Hs := (Entails.of_eq (show sPay YA YB c 6 = arA c (rows (ak c) 256) (kA YA c) from rfl)) $$ Hs0
  rw [wp_ret]
  imodintro
  iapply Hk
  isplitl [Hm5]; · iexact Hm5
  isplitl [Hm6]; · iexact Hm6
  isplitl [Hm7]; · iexact Hm7
  isplitl [HO]; · iexact HO
  iexact Hs

theorem restB_run {Q : PUnit → sProp 𝕄} :
    iprop(records YA YB K ∗ levAts L lv ∗ mid c 0 ∗ pre c 1 ∗ ow c (Ow c 1) ∗ arB c (rows (bk' c) 256) (YB c) ∗ (∃ f, cm (p2 c) (rows 256 256) f)
        ∗ (iprop(mid' c 0 ∗ mid c 1 ∗ ow c (Ow c 2)) -∗ Q ⟨⟩)) ⊢ wp frame (wpE (defs₀ (F := F)) 𝒱₀ (c : Thread nD τ) none) Set.univ (restB c) Q := by
  unfold restB
  iintro ⟨#HR, #HL, Hm0, Hm1, HO, Hb, Hc, Hk⟩
  iapply (go1 YA YB K c _ (dev4_eq c)) $$ [Hm1 Hb Hc HO]
  · isplitr; · iexact HR
    isplitl [Hm1]; · iexact Hm1
    isplitl [Hb]; · iexact Hb
    isplitl [Hc]; · iexact Hc
    iexact HO
  iintro ⟨Hm1, HO⟩
  iapply (wp_wait_s YA YB K c 0 2 (cr0' c)) $$ [Hm0 HO]
  · isplitr; · iexact HR
    isplitr; · iexact HL
    isplitl [Hm0]; · iexact Hm0
    iexact HO
  iintro ⟨Hm0, HO, -⟩
  rw [wp_ret]
  imodintro
  iapply Hk
  isplitl [Hm0]; · iexact Hm0
  isplitl [Hm1]; · iexact Hm1
  iexact HO

end
end Cert.Swa
-- ==== Proof.K.Ends.lean ====
/-
# The body's ends

The part that starts the first copy and reads the first head of the second row half, the last waits, and the result's two stores.
-/
module

public import proofs.«01_k».proof.Proof.K.Parts
public import Idealize.ShloMosaic.Lib.ValueLayout
public import Idealize.ShloMosaic.Lib.Pipeline.ValueKit.Geometry

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ UU ℕ

/-- The mask of the second row half. -/
def maskB : IVec S512x1024 1 := k0_pay24 (iota .tc S512x1024 32 [0] iota_S512x1024_d0_w32) (iota .tc S512x1024 32 [1] iota_S512x1024_d1_w32)

/-- What the first head of the second row half leaves. -/
def headB0 (fq : Vec F S1024x1024 .bf16) (fkb fvb : Vec F S1024x8x128 .bf16) : FVec F S512x128 .bf16 :=
  k0_pay25 (iota .tc S512x1024 32 [0] iota_S512x1024_d0_w32) (iota .tc S512x1024 32 [1] iota_S512x1024_d1_w32)
    (((Memref.whole cc0_scratch5).access (Rect.unit (s := S1024x1024) ![512, 0] S512x128.size inb_S1024x1024_S512x128_512_0)).read (Elt F) fq)
    (((Memref.whole cc0_scratch2).access (Rect.unit (s := S1024x8x128) ![0, 0, 0] S1024x1x128.size inb_S1024x8x128_S1024x1x128_0_0_0)).read (Elt F) fkb)
    (((Memref.whole cc0_scratch3).access (Rect.unit (s := S1024x8x128) ![0, 0, 0] S1024x1x128.size inb_S1024x8x128_S1024x1x128_0_0_0)).read (Elt F) fvb)

section
variable (YA YB : Dev nD → Vec F S512x1024 .bf16) (K : Dev nD × CI → ℕ) (c : Dev nD)

/-- The first part asks for the device's own index only. -/
theorem part1_run {Q : (Σ' (d0 : Dev nD) (v2 : BitVec 32) (v4 : BitVec 32) (v5 : BitVec 32) (v9 : BitVec 32) (v26 : BitVec 32) (v27 : BitVec 32) (v38 : BitVec 1), BitVec 32) → sProp 𝕄} :
    iprop(∀ v2 v4 v5 v9 v26 v27 v38 v39, Q ⟨c, v2, v4, v5, v9, v26, v27, v38, v39⟩)
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13) Q := by
  rw [k0_part1_eq_skeleton]
  unfold k0_part1_skel
  simp only [Prog.lift, Prog.bind_op, Prog.bind_ret, Prog.pure_eq_ret, Prog.bind_assoc, semSignalWord, semWaitWord]
  iintro Hk
  rw [wp_deviceId, wp_ret]
  imodintro
  iapply Hk

set_option maxRecDepth 65536 in
set_option maxHeartbeats 1000000 in
theorem part11_run (fq : Bf F c cc0_scratch5) (fkb : Bf F c cc0_scratch2) (fvb : Bf F c cc0_scratch3) {Q : (Σ' (v356 : IVec S512x1024 1), FVec F S512x128 .bf16) → sProp 𝕄} :
    iprop(records YA YB K ∗ pre c 0 ∗ arA c (rows (ak' c) 256) (YA c) ∗ (∃ f, cm (p1 c) (rows 0 256) f) ∗ ow c (Ow c 0)
        ∗ pt c cc0_scratch5 fq ∗ pt c cc0_scratch2 fkb ∗ pt c cc0_scratch3 fvb ∗ (∃ f, pt c cc0_scratch6 f)
        ∗ (iprop(mid c 0 ∗ ow c (Ow c 1) ∗ pt c cc0_scratch5 fq ∗ pt c cc0_scratch2 fkb ∗ pt c cc0_scratch3 fvb ∗ (∃ f, pt c cc0_scratch6 f))
          -∗ Q ⟨maskB, headB0 fq fkb fvb⟩))
      ⊢ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c
          (iota .tc S512x1024 32 [0] iota_S512x1024_d0_w32) (iota .tc S512x1024 32 [1] iota_S512x1024_d1_w32)) Q := by
  rw [k0_part11_eq_skeleton]
  unfold k0_part11_skel
  simp only [Prog.lift, Prog.bind_op, Prog.bind_ret, Prog.pure_eq_ret, Prog.bind_assoc, semSignalWord, semWaitWord]
  iintro ⟨#HR, Hm0, Ha, Hd, HO, H5, H2, H3, ⟨%f6, H6⟩, Hk⟩
  iapply (go0 YA YB K c _ (dev3_eq c)) $$ [Hm0 Ha Hd HO]
  · isplitr; · iexact HR
    isplitl [Hm0]; · iexact Hm0
    isplitl [Ha]; · iexact Ha
    isplitl [Hd]; · iexact Hd
    iexact HO
  iintro ⟨Hm0, HO⟩
  iapply (wp_load_rect 𝒱₀ (c : Thread nD τ) none Set.univ (Finset.subset_univ _)) $$ [H5]; · iexact H5
  iintro H5
  iapply (wp_load_rect 𝒱₀ (c : Thread nD τ) none Set.univ (Finset.subset_univ _)) $$ [H2]; · iexact H2
  iintro H2
  iapply (wp_load_rect 𝒱₀ (c : Thread nD τ) none Set.univ (Finset.subset_univ _)) $$ [H3]; · iexact H3
  iintro H3
  iapply (wp_load_rect 𝒱₀ (c : Thread nD τ) none Set.univ (Finset.subset_univ _)) $$ [H6]; · iexact H6
  iintro H6
  rw [wp_ret]
  imodintro
  unfold maskB headB0
  iapply Hk
  isplitl [Hm0]; · iexact Hm0
  isplitl [HO]; · iexact HO
  isplitl [H5]; · iexact H5
  isplitl [H2]; · iexact H2
  isplitl [H3]; · iexact H3
  iexists _; iexact H6

/-! ## The last waits -/

set_option maxRecDepth 65536 in
set_option maxHeartbeats 1000000 in
theorem tail_run {Q : FVec F S512x1024 .f32 → sProp 𝕄} :
    iprop(records YA YB K ∗ levAts L lv ∗ mid' c 6 ∗ mid c 7 ∗ ow c (Ow c 8) ∗ arA c (rows (ak c) 256) (kA YA c)
        ∗ (iprop(fin c 6 ∗ fin c 7 ∗ ow c (Ow c 8) ∗ arA c Finset.univ (fA YA c) ∗ arB c Finset.univ (fB YB c)) -∗ Q (k0_pay44 (fA YA c))))
      ⊢ wp frame (wpE (defs₀ (F := F)) 𝒱₀ (c : Thread nD τ) none) Set.univ (do
      let v740 : DmaSems sig S1 := cc0_scratch12.slice (Rect.unit (s := S8) ![6] S1.size inb_S8_S1_6)
      let v741 : DmaSems sig S_ := v740.squeeze S_ squeezes_S1_S_
      let v742 : Memref sig .tc .vmem S256x1024 .bf16 := (Memref.whole cc0_scratch7).slice (Rect.unit (s := S512x1024) (k0_off12 c) S256x1024.size (k0_off12_inb c)) (fun _ => rfl)
      let v743 : Memref sig .tc .vmem S256x1024 .bf16 := (Memref.whole cc0_scratch7).slice (Rect.unit (s := S512x1024) (k0_off12 c) S256x1024.size (k0_off12_inb c)) (fun _ => rfl)
      Prog.lift (.waitDma2 v741.sem v743 v742 ((Memref.isWhole_whole _).wordExact_slice rfl _ (k0_off12_wordsbf16 c)) ((Memref.isWhole_whole _).wordExact_slice rfl _ (k0_off12_wordsbf16 c)))
      let v744 : DmaSems sig S1 := cc0_scratch11.slice (Rect.unit (s := S8) ![7] S1.size inb_S8_S1_7)
      let v745 : DmaSems sig S_ := v744.squeeze S_ squeezes_S1_S_
      let v746 : Memref sig .tc .vmem S256x1024 .bf16 := (Memref.whole cc0_scratch8).slice (Rect.unit (s := S512x1024) (k0_off13 c) S256x1024.size (k0_off13_inb c)) (fun _ => rfl)
      let v747 : Memref sig .tc .vmem S256x1024 .bf16 := (Memref.whole cc0_scratch8).slice (Rect.unit (s := S512x1024) (k0_off13 c) S256x1024.size (k0_off13_inb c)) (fun _ => rfl)
      Prog.lift (.waitDma2 v745.sem v747 v746 ((Memref.isWhole_whole _).wordExact_slice rfl _ (k0_off13_wordsbf16 c)) ((Memref.isWhole_whole _).wordExact_slice rfl _ (k0_off13_wordsbf16 c)))
      let v750 : DmaSems sig S1 := cc0_scratch12.slice (Rect.unit (s := S8) ![7] S1.size inb_S8_S1_7)
      let v751 : DmaSems sig S_ := v750.squeeze S_ squeezes_S1_S_
      let v752 : Memref sig .tc .vmem S256x1024 .bf16 := (Memref.whole cc0_scratch8).slice (Rect.unit (s := S512x1024) (k0_off13 c) S256x1024.size (k0_off13_inb c)) (fun _ => rfl)
      let v753 : Memref sig .tc .vmem S256x1024 .bf16 := (Memref.whole cc0_scratch8).slice (Rect.unit (s := S512x1024) (k0_off13 c) S256x1024.size (k0_off13_inb c)) (fun _ => rfl)
      Prog.lift (.waitDma2 v751.sem v753 v752 ((Memref.isWhole_whole _).wordExact_slice rfl _ (k0_off13_wordsbf16 c)) ((Memref.isWhole_whole _).wordExact_slice rfl _ (k0_off13_wordsbf16 c)))
      let v754 : Vec F S512x1024 .bf16 ← Prog.lift (.load (Memref.whole cc0_scratch7) (Rect.unit (s := S512x1024) ![0, 0] S512x1024.size inb_S512x1024_S512x1024_0_0).toLoadRect (View.loadsAt_vmem h_S512x1024))
      pure (k0_pay44 v754)) Q := by
  simp only [Prog.lift, Prog.bind_op, Prog.bind_ret, Prog.pure_eq_ret, Prog.bind_assoc, semSignalWord, semWaitWord]
  iintro ⟨#HR, #HL, Hm6, Hm7, HO, Ha, Hk⟩
  iapply (wp_wait_r YA YB K c 6 8 (by decide) (cr6 c)) $$ [Hm6 HO]
  · isplitr; · iexact HR
    isplitr; · iexact HL
    isplitl [Hm6]; · iexact Hm6
    iexact HO
  iintro ⟨Hm6, HO, Hp⟩
  ihave Hp6 := (Entails.of_eq (show rPay YA YB c 6 = arA c (rows (ak (p1 c)) 256) (kA YA (p1 c)) from rfl)) $$ Hp
  ihave HA := (joinFA YA c) $$ [Ha Hp6]
  · isplitl [Ha]; · iexact Ha
    iexact Hp6
  iapply (wp_wait_s YA YB K c 7 8 (cr7 c)) $$ [Hm7 HO]
  · isplitr; · iexact HR
    isplitr; · iexact HL
    isplitl [Hm7]; · iexact Hm7
    iexact HO
  iintro ⟨Hm7, HO, Hs⟩
  ihave Hs7 := (Entails.of_eq (show sPay YA YB c 7 = arB c (rows (bk c) 256) (kB YB c) from rfl)) $$ Hs
  iapply (wp_wait_r YA YB K c 7 8 (by decide) (cr7 c)) $$ [Hm7 HO]
  · isplitr; · iexact HR
    isplitr; · iexact HL
    isplitl [Hm7]; · iexact Hm7
    iexact HO
  iintro ⟨Hm7, HO, Hp⟩
  ihave Hp7 := (Entails.of_eq (show rPay YA YB c 7 = arB c (rows (bk (p2 c)) 256) (kB YB (p2 c)) from rfl)) $$ Hp
  ihave HB := (joinFB YB c) $$ [Hs7 Hp7]
  · isplitl [Hs7]; · iexact Hs7
    iexact Hp7
  iapply (wp_load_rect 𝒱₀ (c : Thread nD τ) none Set.univ (Finset.subset_univ _)) $$ [HA]; · iexact HA
  iintro HA
  rw [wp_ret, show ((Memref.whole cc0_scratch7).access (Rect.unit (s := S512x1024) ![0, 0] S512x1024.size inb_S512x1024_S512x1024_0_0)).read (Elt F) (fA YA c) = fA YA c from
    Memref.read_access_unit_zero (Elt F) cc0_scratch7 (by decide) _ _]
  imodintro
  iapply Hk
  isplitl [Hm6]; · iexact Hm6
  isplitl [Hm7]; · iexact Hm7
  isplitl [HO]; · iexact HO
  isplitl [HA]; · iexact HA
  iexact HB

end

/-! ## The result's stores -/

/-- The result block: the two row halves, one above the other. -/
def outOf (a b : Vec F S512x1024 .bf16) : Vec F S1x1024x1024 .f32 := fun i =>
  if h : (i 1).val < 512 then k0_pay44 a (ix2 ⟨(i 1).val, h⟩ (i 2))
  else k0_pay44 b (ix2 ⟨(i 1).val - 512, by have h' : (i 1).val < 1024 := (i 1).isLt; omega⟩ (i 2))

/-- A store of 512 rows from row `o` on, read at a row of them. -/
theorem write_in (o : ℕ) (inb : ∀ a, (![0, o, 0] : Fin 3 → ℕ) a + S1x512x1024.size a ≤ S1x1024x1024.size a) (f : Vec F S1x1024x1024 .f32) (w : FVec F S512x1024 .f32)
    (i : S1x1024x1024.Idx) (k : Fin 512) (hk : (i 1).val = o + k.val) :
    ((Memref.whole cc0_stg3_0).access (Rect.unit (s := S1x1024x1024) ![0, o, 0] S1x512x1024.size inb)).write (Elt F) f
      (shapeCast S1x512x1024 w shapeCasts_S512x1024_S1x512x1024) Finset.univ i = w (ix2 k (i 2)) := by
  have h0 : (i 0).val = 0 := by have h' : (i 0).val < 1 := (i 0).isLt; omega
  have he : ((Memref.whole cc0_stg3_0).access (Rect.unit (s := S1x1024x1024) ![0, o, 0] S1x512x1024.size inb)).emb (ix3 (0 : Fin 1) k (i 2)) = i := by
    funext a
    refine Fin.ext ((ValueKit.rect_emb_unit_val _ _ inb (ix3 (0 : Fin 1) k (i 2)) a).trans ?_)
    match a with
    | ⟨0, _⟩ => exact h0.symm
    | ⟨1, _⟩ => exact hk.symm
    | ⟨2, _⟩ => exact Nat.zero_add _
  have hw := View.write_emb_of_mem (v := (Memref.whole cc0_stg3_0).access (Rect.unit (s := S1x1024x1024) ![0, o, 0] S1x512x1024.size inb)) (Val := Elt F)
    f (shapeCast S1x512x1024 w shapeCasts_S512x1024_S1x512x1024) (M := Finset.univ) (x := ix3 (0 : Fin 1) k (i 2)) (Finset.mem_univ _)
  rw [he] at hw
  exact hw.trans (shapeCast_ab_1ab_apply w _ 0 k (i 2))

/-- … and at a row of no store's. -/
theorem write_out (o : ℕ) (inb : ∀ a, (![0, o, 0] : Fin 3 → ℕ) a + S1x512x1024.size a ≤ S1x1024x1024.size a) (f : Vec F S1x1024x1024 .f32) (w : FVec F S1x512x1024 .f32)
    (i : S1x1024x1024.Idx) (h : (i 1).val < o) :
    ((Memref.whole cc0_stg3_0).access (Rect.unit (s := S1x1024x1024) ![0, o, 0] S1x512x1024.size inb)).write (Elt F) f w Finset.univ i = f i := by
  refine View.write_of_not_mem _ _ _ ?_
  rw [View.setOn_univ]
  refine fun hi => absurd (((ValueKit.mem_set_slice_whole_iff cc0_stg3_0 _ i (Rect.mem_set_unit)).mp hi) 1).1 ?_
  exact Nat.not_le.mpr h

theorem out_eq (a b : Vec F S512x1024 .bf16) (f : Vec F S1x1024x1024 .f32) :
    ((Memref.whole cc0_stg3_0).access (Rect.unit (s := S1x1024x1024) ![0, 512, 0] S1x512x1024.size inb_S1x1024x1024_S1x512x1024_0_512_0)).write (Elt F)
      (((Memref.whole cc0_stg3_0).access (Rect.unit (s := S1x1024x1024) ![0, 0, 0] S1x512x1024.size inb_S1x1024x1024_S1x512x1024_0_0_0)).write (Elt F) f
        (k0_pay1 (k0_pay44 a)) Finset.univ) (k0_pay2 b) Finset.univ = outOf a b := by
  funext i
  unfold outOf
  by_cases h : (i 1).val < 512
  · rw [dif_pos h]
    exact (write_out 512 _ _ _ i h).trans (write_in 0 _ f (k0_pay44 a) i ⟨(i 1).val, h⟩ (Nat.zero_add _).symm)
  · rw [dif_neg h]
    have h' : (i 1).val < 1024 := (i 1).isLt
    exact write_in 512 _ _ (k0_pay44 b) i ⟨(i 1).val - 512, by omega⟩ (by show _ = 512 + ((i 1).val - 512); omega)

section
variable (c : Dev nD)
theorem store_run (a b : Vec F S512x1024 .bf16) {Q : PUnit → sProp 𝕄} :
    iprop(arB c Finset.univ b ∗ (∃ f, pt c cc0_stg3_0 f) ∗ (iprop(arB c Finset.univ b ∗ pt c cc0_stg3_0 (outOf a b)) -∗ Q ⟨⟩))
      ⊢ wp frame (wpE (defs₀ (F := F)) 𝒱₀ (c : Thread nD τ) none) Set.univ (do
      let v756 : Vec F S1x512x1024 .f32 ← Prog.lift (.load (Memref.whole cc0_stg3_0) (Rect.unit (s := S1x1024x1024) ![0, 0, 0] S1x512x1024.size inb_S1x1024x1024_S1x512x1024_0_0_0).toLoadRect (View.loadsAt_vmem h_S1x512x1024))
      Prog.lift (.store (Memref.whole cc0_stg3_0) (Rect.unit (s := S1x1024x1024) ![0, 0, 0] S1x512x1024.size inb_S1x1024x1024_S1x512x1024_0_0_0) (k0_pay1 (k0_pay44 a)) Finset.univ (View.stores_vmem_bits_univ h_S1x512x1024 rfl) (.inl rfl))
      let v759 : Vec F S512x1024 .bf16 ← Prog.lift (.load (Memref.whole cc0_scratch8) (Rect.unit (s := S512x1024) ![0, 0] S512x1024.size inb_S512x1024_S512x1024_0_0).toLoadRect (View.loadsAt_vmem h_S512x1024))
      let v761 : Vec F S1x512x1024 .f32 ← Prog.lift (.load (Memref.whole cc0_stg3_0) (Rect.unit (s := S1x1024x1024) ![0, 512, 0] S1x512x1024.size inb_S1x1024x1024_S1x512x1024_0_512_0).toLoadRect (View.loadsAt_vmem h_S1x512x1024))
      Prog.lift (.store (Memref.whole cc0_stg3_0) (Rect.unit (s := S1x1024x1024) ![0, 512, 0] S1x512x1024.size inb_S1x1024x1024_S1x512x1024_0_512_0) (k0_pay2 v759) Finset.univ (View.stores_vmem_bits_univ h_S1x512x1024 rfl) (.inl rfl))
      pure ⟨⟩) Q := by
  simp only [Prog.lift, Prog.bind_op, Prog.bind_ret, Prog.pure_eq_ret, Prog.bind_assoc, semSignalWord, semWaitWord]
  iintro ⟨HB, ⟨%f, Ho⟩, Hk⟩
  iapply (wp_load_rect 𝒱₀ (c : Thread nD τ) none Set.univ (Finset.subset_univ _)) $$ [Ho]; · iexact Ho
  iintro Ho
  iapply (wp_store 𝒱₀ (c : Thread nD τ) none Set.univ (Finset.subset_univ _)) $$ [Ho]; · iexact Ho
  iintro Ho
  iapply (wp_load_rect 𝒱₀ (c : Thread nD τ) none Set.univ (Finset.subset_univ _)) $$ [HB]; · iexact HB
  iintro HB
  iapply (wp_load_rect 𝒱₀ (c : Thread nD τ) none Set.univ (Finset.subset_univ _)) $$ [Ho]; · iexact Ho
  iintro Ho
  iapply (wp_store 𝒱₀ (c : Thread nD τ) none Set.univ (Finset.subset_univ _)) $$ [Ho]; · iexact Ho
  iintro Ho
  rw [wp_ret, show ((Memref.whole cc0_scratch8).access (Rect.unit (s := S512x1024) ![0, 0] S512x1024.size inb_S512x1024_S512x1024_0_0)).read (Elt F) b = b from
    Memref.read_access_unit_zero (Elt F) cc0_scratch8 (by decide) _ _, out_eq a b f]
  imodintro
  iapply Hk
  isplitl [HB]; · iexact HB
  iexact Ho
end

end Cert.Swa
-- ==== Proof.K.Body.lean ====
/-
# The body at a symbolic device

The parts put together: the handshake, the first row half, the first copy, the second row half, the exchange, the result.
-/
module

public import proofs.«01_k».proof.Proof.K.Ends

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (YA YB : Dev nD → Vec F S512x1024 .bf16) (K : Dev nD × CI → ℕ) (c : Dev nD)
    (fx : Bf F c cc0_stg0_0) (fw : Bf F c cc0_stg1_0) (fo : Bf F c cc0_stg2_0) (fK : Bf F c main_arg2) (fV : Bf F c main_arg3)

/-- Device `c`'s partial product, first row half. -/
def yA : Vec F S512x1024 .bf16 := (runA c fx fw fo fK fV).1.ar
/-- … and the second. -/
def yB : Vec F S512x1024 .bf16 :=
  (runB c (runA c fx fw fo fK fV).1.kb (runA c fx fw fo fK fV).1.vb (runA c fx fw fo fK fV).1.wob (runA c fx fw fo fK fV).1.q maskB
    (headB0 (runA c fx fw fo fK fV).1.q (runA c fx fw fo fK fV).1.kb (runA c fx fw fo fK fV).1.vb)).1

/-- The scratch buffers, at whatever they hold. -/
def scratches : sProp 𝕄 := iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f))

def preAll : sProp 𝕄 := iprop(pre c 0 ∗ pre c 1 ∗ pre c 2 ∗ pre c 3 ∗ pre c 4 ∗ pre c 5 ∗ pre c 6 ∗ pre c 7)
def finAll : sProp 𝕄 := iprop(fin c 0 ∗ fin c 1 ∗ fin c 2 ∗ fin c 3 ∗ fin c 4 ∗ fin c 5 ∗ fin c 6 ∗ fin c 7)

omit [FloatOps F] in
theorem joinC : iprop((∃ f, cm (F := F) c (rows 0 256) f) ∗ (∃ f, cm (F := F) c (rows 256 256) f)) ⊢ iprop(∃ f, pt c cc0_scratch9 f) := by
  iintro ⟨⟨%f, H⟩, ⟨%g, H'⟩⟩
  iexists ((rows 256 256).piecewise g f)
  iapply ((pointsTo_join rows_disj_cm).trans (Entails.of_eq (congrArg (fun S => cm c S _) rows_union_cm)))
  isplitl [H]; · iexact H
  iexact H'
omit [FloatOps F] in
theorem joinT : iprop((∃ f, tm (F := F) c (rowsT 0 128) f) ∗ (∃ f, tm (F := F) c (rowsT 128 128) f)) ⊢ iprop(∃ f, pt c cc0_scratch10 f) := by
  iintro ⟨⟨%f, H⟩, ⟨%g, H'⟩⟩
  iexists ((rowsT 128 128).piecewise g f)
  iapply ((pointsTo_join rows_disj_tm).trans (Entails.of_eq (congrArg (fun S => tm c S _) rows_union_tm)))
  isplitl [H]; · iexact H
  iexact H'

set_option maxRecDepth 65536 in
set_option maxHeartbeats 4000000 in
theorem body_run (hA : YA c = yA c fx fw fo fK fV) (hB : YB c = yB c fx fw fo fK fV) {Q : PUnit → sProp 𝕄} :
    iprop(records YA YB K ∗ levAts L lv ∗ barPre c ∗ preAll c ∗ ow c (O₀ c)
        ∗ (pt c cc0_stg0_0 fx ∗ pt c cc0_stg1_0 fw ∗ pt c cc0_stg2_0 fo ∗ (∃ f, pt c cc0_stg3_0 f) ∗ pt c main_arg2 fK ∗ pt c main_arg3 fV)
        ∗ scratches c ∗ semVal ((c : Thread nD τ), SemLoc.dma cp0) 0 ∗ semVal ((c : Thread nD τ), SemLoc.dma cp1) 0
        ∗ (iprop(atPos ER (barCell c) 1 ∅ 0 ∗ finAll c ∗ ow c (Ow c 8)
            ∗ (pt c cc0_stg0_0 fx ∗ pt c cc0_stg1_0 fw ∗ pt c cc0_stg2_0 fo ∗ pt c cc0_stg3_0 (outOf (fA YA c) (fB YB c)) ∗ pt c main_arg2 fK ∗ pt c main_arg3 fV)
            ∗ scratches c ∗ semVal ((c : Thread nD τ), SemLoc.dma cp0) 0 ∗ semVal ((c : Thread nD τ), SemLoc.dma cp1) 0) -∗ Q ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13) Q := by
  rw [cc0_body_eq_skeleton]
  unfold cc0_body_skel
  rw [wp_bind, k0_part23_eq_skeleton]
  unfold k0_part23_skel preAll finAll scratches
  iintro ⟨#HR, #HL, Hbar, ⟨P0, P1, P2, P3, P4, P5, P6, P7⟩, HO, ⟨Hx, Hw, Ho, Hout, HK, HV⟩, ⟨S0, S1, S2, S3, S4, S5, S6, S7, S8, ⟨%f9, S9⟩, ⟨%f10, S10⟩⟩, Hs0, Hs1, Hk⟩
  rw [wp_bind]
  iapply (part1_run c)
  iintro %v2 %v4 %v5 %v9 %v26 %v27 %v38 %v39
  dsimp only
  -- the handshake
  ihave S9' := (Entails.of_eq (congrArg (fun S => cm c S f9) (rows_union_cm.symm))) $$ S9
  ihave S9'' := ((pointsTo_union rows_disj_cm).1) $$ S9'
  icases S9'' with ⟨C0, C1⟩
  ihave S10' := (Entails.of_eq (congrArg (fun S => tm c S f10) (rows_union_tm.symm))) $$ S10
  ihave S10'' := ((pointsTo_union rows_disj_tm).1) $$ S10'
  icases S10'' with ⟨T0, T1⟩
  rw [wp_bind]
  iapply (part2_run YA YB K c v2 v4 v5 v9 v26 v27 v38 v39) $$ [Hbar HO C0 C1 T0 T1 P0 P1 P2 P3 P4 P5 P6 P7 Hx Hw Ho Hout HK HV S0 S1 S2 S3 S4 S5 S6 S7 S8 Hs0 Hs1 Hk]
  isplitr; · iexact HR
  isplitr; · iexact HL
  isplitl [Hbar]; · iexact Hbar
  isplitl [HO]; · iexact HO
  isplitl [C0 C1]
  · isplitl [C0]
    · iexists f9; iexact C0
    · iexists f9; iexact C1
  isplitl [T0 T1]
  · isplitl [T0]
    · iexists f10; iexact T0
    · iexists f10; iexact T1
  iintro %v ⟨Hbar, HO, HpF, HpT⟩
  obtain ⟨v53, v54, v57, v61, v63⟩ := v
  dsimp only
  unfold barPayF barPayT
  icases HpF with ⟨D0, E1⟩
  icases HpT with ⟨D1, E0⟩
  -- the first row half
  ihave HO' := (Entails.of_eq (show ow c (Ow c 0) = iprop(∃ W, owes (c : Thread nD τ) (Ow c 0) W) from rfl)) $$ HO
  icases HO' with ⟨%W, HO⟩
  iapply ((runA c fx fw fo fK fV).2 (Ow c 0) W (levAts L lv)
    (fun O' h => h ▸ mayWait_Ow c (.dma cp0) 0 (by decide)) (fun O' h => h ▸ mayWait_Ow c (.dma cp1) 0 (by decide))
    (fun v112 v113 => do
      let ⟨v356, v383⟩ : Σ' (v356 : IVec S512x1024 1), FVec F S512x128 .bf16 ← k0_part11 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v112 v113
      let ⟨v416, cst_252⟩ : Σ' (v416 : FVec F S512x1024 .f32), F .f32 ← k0_part12 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v383
      let ⟨v450, v455⟩ : Σ' (v450 : FVec F S512x1024 .f32), FVec F S512x1024 .f32 ← k0_part13 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v416 cst_252
      let v491 : FVec F S512x128 .bf16 ← k0_part14 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v450 v455
      let ⟨v524, cst_320⟩ : Σ' (v524 : FVec F S512x1024 .f32), F .f32 ← k0_part15 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v491
      let ⟨v558, v563⟩ : Σ' (v558 : FVec F S512x1024 .f32), FVec F S512x1024 .f32 ← k0_part16 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v356 v524 cst_320
      k0_part17 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v5 v558 v563
      let c1_i32_395 : BitVec 32 ← k0_part18 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v26 v54
      let v650 : BitVec 32 ← k0_part19 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v53 v57 c1_i32_395
      k0_part20 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v61 v650
      k0_part21 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v63
      let c1_i32_497 : BitVec 32 ← k0_part22 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5
      let v740 : DmaSems sig S1 := cc0_scratch12.slice (Rect.unit (s := S8) ![6] S1.size inb_S8_S1_6)
      let v741 : DmaSems sig S_ := v740.squeeze S_ squeezes_S1_S_
      let v742 : Memref sig .tc .vmem S256x1024 .bf16 := (Memref.whole cc0_scratch7).slice (Rect.unit (s := S512x1024) (k0_off12 c) S256x1024.size (k0_off12_inb c)) (fun _ => rfl)
      let v743 : Memref sig .tc .vmem S256x1024 .bf16 := (Memref.whole cc0_scratch7).slice (Rect.unit (s := S512x1024) (k0_off12 c) S256x1024.size (k0_off12_inb c)) (fun _ => rfl)
      Prog.lift (.waitDma2 v741.sem v743 v742 ((Memref.isWhole_whole _).wordExact_slice rfl _ (k0_off12_wordsbf16 c)) ((Memref.isWhole_whole _).wordExact_slice rfl _ (k0_off12_wordsbf16 c)))
      let v744 : DmaSems sig S1 := cc0_scratch11.slice (Rect.unit (s := S8) ![7] S1.size inb_S8_S1_7)
      let v745 : DmaSems sig S_ := v744.squeeze S_ squeezes_S1_S_
      let v746 : Memref sig .tc .vmem S256x1024 .bf16 := (Memref.whole cc0_scratch8).slice (Rect.unit (s := S512x1024) (k0_off13 c) S256x1024.size (k0_off13_inb c)) (fun _ => rfl)
      let v747 : Memref sig .tc .vmem S256x1024 .bf16 := (Memref.whole cc0_scratch8).slice (Rect.unit (s := S512x1024) (k0_off13 c) S256x1024.size (k0_off13_inb c)) (fun _ => rfl)
      Prog.lift (.waitDma2 v745.sem v747 v746 ((Memref.isWhole_whole _).wordExact_slice rfl _ (k0_off13_wordsbf16 c)) ((Memref.isWhole_whole _).wordExact_slice rfl _ (k0_off13_wordsbf16 c)))
      let v750 : DmaSems sig S1 := cc0_scratch12.slice (Rect.unit (s := S8) ![7] S1.size inb_S8_S1_7)
      let v751 : DmaSems sig S_ := v750.squeeze S_ squeezes_S1_S_
      let v752 : Memref sig .tc .vmem S256x1024 .bf16 := (Memref.whole cc0_scratch8).slice (Rect.unit (s := S512x1024) (k0_off13 c) S256x1024.size (k0_off13_inb c)) (fun _ => rfl)
      let v753 : Memref sig .tc .vmem S256x1024 .bf16 := (Memref.whole cc0_scratch8).slice (Rect.unit (s := S512x1024) (k0_off13 c) S256x1024.size (k0_off13_inb c)) (fun _ => rfl)
      Prog.lift (.waitDma2 v751.sem v753 v752 ((Memref.isWhole_whole _).wordExact_slice rfl _ (k0_off13_wordsbf16 c)) ((Memref.isWhole_whole _).wordExact_slice rfl _ (k0_off13_wordsbf16 c)))
      let v754 : Vec F S512x1024 .bf16 ← Prog.lift (.load (Memref.whole cc0_scratch7) (Rect.unit (s := S512x1024) ![0, 0] S512x1024.size inb_S512x1024_S512x1024_0_0).toLoadRect (View.loadsAt_vmem h_S512x1024))
      pure (k0_pay44 v754)) v4 _) $$ [HO Hbar D0 D1 E0 E1 P0 P1 P2 P3 P4 P5 P6 P7 Hx Hw Ho Hout HK HV S0 S1 S2 S3 S4 S5 S6 S7 S8 Hs0 Hs1 Hk]
  isplitl [Hx]; · iexact Hx
  isplitl [Hw]; · iexact Hw
  isplitl [Ho]; · iexact Ho
  isplitl [HK]; · iexact HK
  isplitl [HV]; · iexact HV
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [Hs0]; · iexact Hs0
  isplitl [Hs1]; · iexact Hs1
  isplitl [HO]; · iexact HO
  isplitr; · imodintro; iexact HL
  iintro ⟨Hx, Hw, Ho, HK, HV, S0, S1, S2, S3, S4, S5, S6, S7, Hs0, Hs1, HO⟩
  -- the first copy
  ihave S7' := (Entails.of_eq (show pt c cc0_scratch7 (runA c fx fw fo fK fV).1.ar = arA c (rows (ak c) 256 ∪ rows (ak' c) 256) (YA c) from by
    rw [rows_union_a, hA]; rfl)) $$ S7
  ihave S7'' := ((pointsTo_union (rows_disj_a c)).1) $$ S7'
  icases S7'' with ⟨A0, A1⟩
  rw [wp_bind]
  iapply (part11_run YA YB K c (runA c fx fw fo fK fV).1.q (runA c fx fw fo fK fV).1.kb (runA c fx fw fo fK fV).1.vb) $$ [HO Hbar D0 D1 E0 E1 P0 P1 P2 P3 P4 P5 P6 P7 Hx Hw Ho Hout HK HV S0 S1 S2 S3 S4 S5 S6 A0 A1 S8 Hs0 Hs1 Hk]
  isplitr; · iexact HR
  isplitl [P0]; · iexact P0
  isplitl [A1]; · iexact A1
  isplitl [D0]; · iexact D0
  isplitl [HO]; · iapply (Entails.of_eq (show iprop(∃ W, owes (c : Thread nD τ) (Ow c 0) W) = ow c (Ow c 0) from rfl)); iexists _; iexact HO
  isplitl [S5]; · iexact S5
  isplitl [S2]; · iexact S2
  isplitl [S3]; · iexact S3
  isplitl [S6]; · iexact S6
  iintro ⟨M0, HO, S5, S2, S3, S6⟩
  dsimp only
  -- the second row half
  iapply ((runB c (runA c fx fw fo fK fV).1.kb (runA c fx fw fo fK fV).1.vb (runA c fx fw fo fK fV).1.wob (runA c fx fw fo fK fV).1.q maskB
    (headB0 (runA c fx fw fo fK fV).1.q (runA c fx fw fo fK fV).1.kb (runA c fx fw fo fK fV).1.vb)).2
    (fun _ => do
      let c1_i32_395 : BitVec 32 ← k0_part18 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v26 v54
      let v650 : BitVec 32 ← k0_part19 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v53 v57 c1_i32_395
      k0_part20 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v61 v650
      k0_part21 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5 v63
      let c1_i32_497 : BitVec 32 ← k0_part22 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 c v4 v5
      let v740 : DmaSems sig S1 := cc0_scratch12.slice (Rect.unit (s := S8) ![6] S1.size inb_S8_S1_6)
      let v741 : DmaSems sig S_ := v740.squeeze S_ squeezes_S1_S_
      let v742 : Memref sig .tc .vmem S256x1024 .bf16 := (Memref.whole cc0_scratch7).slice (Rect.unit (s := S512x1024) (k0_off12 c) S256x1024.size (k0_off12_inb c)) (fun _ => rfl)
      let v743 : Memref sig .tc .vmem S256x1024 .bf16 := (Memref.whole cc0_scratch7).slice (Rect.unit (s := S512x1024) (k0_off12 c) S256x1024.size (k0_off12_inb c)) (fun _ => rfl)
      Prog.lift (.waitDma2 v741.sem v743 v742 ((Memref.isWhole_whole _).wordExact_slice rfl _ (k0_off12_wordsbf16 c)) ((Memref.isWhole_whole _).wordExact_slice rfl _ (k0_off12_wordsbf16 c)))
      let v744 : DmaSems sig S1 := cc0_scratch11.slice (Rect.unit (s := S8) ![7] S1.size inb_S8_S1_7)
      let v745 : DmaSems sig S_ := v744.squeeze S_ squeezes_S1_S_
      let v746 : Memref sig .tc .vmem S256x1024 .bf16 := (Memref.whole cc0_scratch8).slice (Rect.unit (s := S512x1024) (k0_off13 c) S256x1024.size (k0_off13_inb c)) (fun _ => rfl)
      let v747 : Memref sig .tc .vmem S256x1024 .bf16 := (Memref.whole cc0_scratch8).slice (Rect.unit (s := S512x1024) (k0_off13 c) S256x1024.size (k0_off13_inb c)) (fun _ => rfl)
      Prog.lift (.waitDma2 v745.sem v747 v746 ((Memref.isWhole_whole _).wordExact_slice rfl _ (k0_off13_wordsbf16 c)) ((Memref.isWhole_whole _).wordExact_slice rfl _ (k0_off13_wordsbf16 c)))
      let v750 : DmaSems sig S1 := cc0_scratch12.slice (Rect.unit (s := S8) ![7] S1.size inb_S8_S1_7)
      let v751 : DmaSems sig S_ := v750.squeeze S_ squeezes_S1_S_
      let v752 : Memref sig .tc .vmem S256x1024 .bf16 := (Memref.whole cc0_scratch8).slice (Rect.unit (s := S512x1024) (k0_off13 c) S256x1024.size (k0_off13_inb c)) (fun _ => rfl)
      let v753 : Memref sig .tc .vmem S256x1024 .bf16 := (Memref.whole cc0_scratch8).slice (Rect.unit (s := S512x1024) (k0_off13 c) S256x1024.size (k0_off13_inb c)) (fun _ => rfl)
      Prog.lift (.waitDma2 v751.sem v753 v752 ((Memref.isWhole_whole _).wordExact_slice rfl _ (k0_off13_wordsbf16 c)) ((Memref.isWhole_whole _).wordExact_slice rfl _ (k0_off13_wordsbf16 c)))
      let v754 : Vec F S512x1024 .bf16 ← Prog.lift (.load (Memref.whole cc0_scratch7) (Rect.unit (s := S512x1024) ![0, 0] S512x1024.size inb_S512x1024_S512x1024_0_0).toLoadRect (View.loadsAt_vmem h_S512x1024))
      pure (k0_pay44 v754)) v5 _) $$ [HO Hbar M0 D1 E0 E1 P1 P2 P3 P4 P5 P6 P7 Hx Hw Ho Hout HK HV S0 S1 S2 S3 S4 S5 S6 A0 S8 Hs0 Hs1 Hk]
  isplitl [S2]; · iexact S2
  isplitl [S3]; · iexact S3
  isplitl [S4]; · iexact S4
  isplitl [S5]; · iexact S5
  isplitl [S6]; · iexact S6
  isplitl [S8]; · iexact S8
  iintro ⟨S2, S3, S4, S5, S6, S8⟩
  ihave S8' := (Entails.of_eq (show pt c cc0_scratch8 (runB c (runA c fx fw fo fK fV).1.kb (runA c fx fw fo fK fV).1.vb (runA c fx fw fo fK fV).1.wob (runA c fx fw fo fK fV).1.q maskB
      (headB0 (runA c fx fw fo fK fV).1.q (runA c fx fw fo fK fV).1.kb (runA c fx fw fo fK fV).1.vb)).1
      = arB c (rows (bk c) 256 ∪ rows (bk' c) 256) (YB c) from by
    rw [rows_union_b, hB]; rfl)) $$ S8
  ihave S8'' := ((pointsTo_union (rows_disj_b c)).1) $$ S8'
  icases S8'' with ⟨B0, B1⟩
  iapply (restB_run YA YB K c) $$ [HO Hbar M0 D1 E0 E1 P1 P2 P3 P4 P5 P6 P7 Hx Hw Ho Hout HK HV S0 S1 S2 S3 S4 S5 S6 A0 B0 B1 Hs0 Hs1 Hk]
  isplitr; · iexact HR
  isplitr; · iexact HL
  isplitl [M0]; · iexact M0
  isplitl [P1]; · iexact P1
  isplitl [HO]; · iexact HO
  isplitl [B1]; · iexact B1
  isplitl [D1]; · iexact D1
  iintro ⟨M0, M1, HO⟩
  rw [wp_bind]
  iapply (part18_run YA YB K c v4 v5 v26 v54) $$ [A0 B0 E0 E1 HK HO HV Hbar Hk Ho Hout Hs0 Hs1 Hw Hx M0 M1 P2 P3 P4 P5 P6 P7 S0 S1 S2 S3 S4 S5 S6]
  isplitr; · iexact HR
  isplitr; · iexact HL
  isplitl [M0]; · iexact M0
  isplitl [M1]; · iexact M1
  isplitl [P2]; · iexact P2
  isplitl [HO]; · iexact HO
  isplitl [A0]; · iexact A0
  isplitl [E0]; · iexact E0
  iintro %w18 ⟨M0, M1, M2, HO, A0, Y1, X0⟩
  rw [wp_bind]
  iapply (part19_run YA YB K c v4 v5 v53 v57 w18) $$ [A0 B0 E1 HK HO HV Hbar Hk Ho Hout Hs0 Hs1 Hw Hx M0 M1 M2 P3 P4 P5 P6 P7 S0 S1 S2 S3 S4 S5 S6 X0 Y1]
  isplitr; · iexact HR
  isplitr; · iexact HL
  isplitl [M1]; · iexact M1
  isplitl [M2]; · iexact M2
  isplitl [P3]; · iexact P3
  isplitl [HO]; · iexact HO
  isplitl [B0]; · iexact B0
  isplitl [E1]; · iexact E1
  iintro %w19 ⟨M1, M2, M3, HO, B0, Y2, X1⟩
  rw [wp_bind]
  iapply (part20_run YA YB K c v4 v5 v61 w19) $$ [A0 B0 HK HO HV Hbar Hk Ho Hout Hs0 Hs1 Hw Hx M0 M1 M2 M3 P4 P5 P6 P7 S0 S1 S2 S3 S4 S5 S6 X0 X1 Y1 Y2]
  isplitr; · iexact HR
  isplitr; · iexact HL
  isplitl [M2]; · iexact M2
  isplitl [M3]; · iexact M3
  isplitl [P4]; · iexact P4
  isplitl [HO]; · iexact HO
  isplitl [A0]; · iexact A0
  iintro %w20 ⟨M2, M3, M4, HO, Z0⟩
  rw [wp_bind]
  iapply (part21_run YA YB K c v4 v5 v63) $$ [B0 HK HO HV Hbar Hk Ho Hout Hs0 Hs1 Hw Hx M0 M1 M2 M3 M4 P5 P6 P7 S0 S1 S2 S3 S4 S5 S6 X0 X1 Y1 Y2 Z0]
  isplitr; · iexact HR
  isplitr; · iexact HL
  isplitl [M3]; · iexact M3
  isplitl [M4]; · iexact M4
  isplitl [P5]; · iexact P5
  isplitl [HO]; · iexact HO
  isplitl [B0]; · iexact B0
  iintro %w21 ⟨M3, M4, M5, HO, A0, Z1⟩
  rw [wp_bind]
  iapply (part22_run YA YB K c v4 v5) $$ [A0 HK HO HV Hbar Hk Ho Hout Hs0 Hs1 Hw Hx M0 M1 M2 M3 M4 M5 P6 P7 S0 S1 S2 S3 S4 S5 S6 X0 X1 Y1 Y2 Z0 Z1]
  isplitr; · iexact HR
  isplitr; · iexact HL
  isplitl [M5]; · iexact M5
  isplitl [P6]; · iexact P6
  isplitl [P7]; · iexact P7
  isplitl [HO]; · iexact HO
  isplitl [A0]; · iexact A0
  isplitl [Y1]; · iexact Y1
  isplitl [Y2]; · iexact Y2
  iintro %w22 ⟨M5, M6, M7, HO, A0⟩
  iapply (tail_run YA YB K c) $$ [A0 HK HO HV Hbar Hk Ho Hout Hs0 Hs1 Hw Hx M0 M1 M2 M3 M4 M5 M6 M7 S0 S1 S2 S3 S4 S5 S6 X0 X1 Z0 Z1]
  isplitr; · iexact HR
  isplitr; · iexact HL
  isplitl [M6]; · iexact M6
  isplitl [M7]; · iexact M7
  isplitl [HO]; · iexact HO
  isplitl [A0]; · iexact A0
  iintro ⟨M6, M7, HO, A0, B0⟩
  -- the result
  iapply (store_run c (fA YA c) (fB YB c)) $$ [A0 B0 HK HO HV Hbar Hk Ho Hout Hs0 Hs1 Hw Hx M0 M1 M2 M3 M4 M5 M6 M7 S0 S1 S2 S3 S4 S5 S6 X0 X1 Z0 Z1]
  isplitl [B0]; · iexact B0
  isplitl [Hout]; · iexact Hout
  iintro ⟨B0, Hout⟩
  iapply Hk
  isplitl [Hbar]; · iexact Hbar
  isplitl [M0 M1 M2 M3 M4 M5 M6 M7]
  · isplitl [M0]; · iexact M0
    isplitl [M1]; · iexact M1
    isplitl [M2]; · iexact M2
    isplitl [M3]; · iexact M3
    isplitl [M4]; · iexact M4
    isplitl [M5]; · iexact M5
    isplitl [M6]; · iexact M6
    iexact M7
  isplitl [HO]; · iexact HO
  isplitl [Hx Hw Ho Hout HK HV]
  · isplitl [Hx]; · iexact Hx
    isplitl [Hw]; · iexact Hw
    isplitl [Ho]; · iexact Ho
    isplitl [Hout]; · iexact Hout
    isplitl [HK]; · iexact HK
    iexact HV
  isplitl [S0 S1 S2 S3 S4 S5 S6 A0 B0 X0 X1 Z0 Z1]
  · isplitl [S0]; · iexact S0
    isplitl [S1]; · iexact S1
    isplitl [S2]; · iexists _; iexact S2
    isplitl [S3]; · iexists _; iexact S3
    isplitl [S4]; · iexists _; iexact S4
    isplitl [S5]; · iexists _; iexact S5
    isplitl [S6]; · iexact S6
    isplitl [A0]; · iexists _; iexact A0
    isplitl [B0]; · iexists _; iexact B0
    isplitl [X0 X1]
    · iapply (joinC c)
      isplitl [X0]; · iexact X0
      iexact X1
    · iapply (joinT c)
      isplitl [Z0]; · iexact Z0
      iexact Z1
  isplitl [Hs0]; · iexact Hs0
  iexact Hs1
end

end Cert.Swa
-- ==== Proof.K.Ghost.lean ====
/-
# The launch's ghost state

The cells and tokens minted at launch, dealt to the devices that pay and wait with them, and the credits of what the devices owe.
-/
module

public import proofs.«01_k».proof.Proof.K.Body

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The cells and their tokens -/

/-- The kernel's own semaphores: the eight send, the eight receive, the two of the local transfers. -/
abbrev osem : (Fin 8 ⊕ Fin 8) ⊕ Fin 2 → SemLoc sig := fun
  | .inl (.inl j) => .dma (sS j)
  | .inl (.inr j) => .dma (rS j)
  | .inr 0 => .dma cp0
  | .inr 1 => .dma cp1
set_option maxRecDepth 8192 in
theorem ownSemFacts : Pipeline.OwnSemFacts cfg0.spec osem := by decide

theorem csem_injective : Function.Injective csem := by
  unfold Function.Injective; decide
theorem kcell_injective : Function.Injective (kcell : Dev nD × CI → GSem nD τ sig) := by
  rintro ⟨c, k⟩ ⟨c', k'⟩ h
  have h1 : c = c' := congrArg (fun g : GSem nD τ sig => g.1.1) h
  subst h1
  obtain rfl : k = k' := csem_injective (congrArg Prod.snd h)
  rfl
def ringCells : Finset (GSem nD τ sig) := Finset.univ.map ⟨kcell, kcell_injective⟩

/-- A cell's tokens as minted: the barrier's two, every other cell's one. -/
abbrev TI : Type := Bool ⊕ (Fin 8 ⊕ Fin 8)
abbrev tsem : TI → SemLoc sig × Bool := fun
  | .inl b => (.reg barS, b)
  | .inr (.inl j) => (.dma (sS j), false)
  | .inr (.inr j) => (.dma (rS j), false)
theorem tsem_injective : Function.Injective tsem := by
  unfold Function.Injective; decide
abbrev tokOf (cj : Dev nD × TI) : GSem nD τ sig × ℕ × Bool := (((cj.1 : Thread nD τ), (tsem cj.2).1), 0, (tsem cj.2).2)
theorem tokOf_injective : Function.Injective (tokOf : Dev nD × TI → GSem nD τ sig × ℕ × Bool) := by
  rintro ⟨c, k⟩ ⟨c', k'⟩ h
  have h1 : c = c' := congrArg (fun x : GSem nD τ sig × ℕ × Bool => x.1.1.1) h
  subst h1
  obtain rfl : k = k' := tsem_injective (congrArg (fun x : GSem nD τ sig × ℕ × Bool => (x.1.2, x.2.2)) h)
  rfl
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The tokens of device `c`'s own cells. -/
def toks (c : Dev nD) : sProp 𝕄 :=
  iprop((dutyTok ER (barCell c) 0 false ∗ dutyTok ER (barCell c) 0 true)
    ∗ (bigSep Finset.univ fun j : Fin 8 => dutyTok ER (sCell c j) 0 false) ∗ bigSep Finset.univ fun j : Fin 8 => dutyTok ER (rCell c j) 0 false)
/-- The tokens of the duties device `c` pays. -/
def payToks (c : Dev nD) : sProp 𝕄 :=
  iprop((dutyTok ER (barCell (p1 c)) 0 false ∗ dutyTok ER (barCell (p2 c)) 0 true)
    ∗ (bigSep Finset.univ fun j : Fin 8 => dutyTok ER (sCell c j) 0 false) ∗ bigSep Finset.univ fun j : Fin 8 => dutyTok ER (rCell (peer j c) j) 0 false)
/-- The counters of the two local transfers. -/
def cps (c : Dev nD) : sProp 𝕄 := iprop(semVal ((c : Thread nD τ), SemLoc.dma cp0) 0 ∗ semVal ((c : Thread nD τ), SemLoc.dma cp1) 0)
/-- Device `c`'s positions. -/
def poss (c : Dev nD) : sProp 𝕄 :=
  iprop(atPos ER (barCell c) 0 ∅ 0
    ∗ (bigSep Finset.univ fun j : Fin 8 => atPos ER (sCell c j) 0 ∅ 0) ∗ bigSep Finset.univ fun j : Fin 8 => atPos ER (rCell c j) 0 ∅ 0)

omit [FloatOps F] in
theorem bigSep_CI (Φ : CI → sProp 𝕄) : bigSep Finset.univ Φ
    = iprop(Φ (.inl ()) ∗ (bigSep Finset.univ fun j : Fin 8 => Φ (.inr (.inl j))) ∗ bigSep Finset.univ fun j : Fin 8 => Φ (.inr (.inr j))) := by
  rw [bigSep_univ_sum, bigSep_univ_sum, bigSep_univ_eq_bigSepL [()] (by decide) (by decide)]; rfl
omit [FloatOps F] in
theorem bigSep_TI (Φ : TI → sProp 𝕄) : bigSep Finset.univ Φ
    = iprop((Φ (.inl false) ∗ Φ (.inl true)) ∗ (bigSep Finset.univ fun j : Fin 8 => Φ (.inr (.inl j))) ∗ bigSep Finset.univ fun j : Fin 8 => Φ (.inr (.inr j))) := by
  rw [bigSep_univ_sum, bigSep_univ_sum, bigSep_univ_eq_bigSepL [false, true] (by decide) (by decide)]; rfl
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun j : Fin 8 => semVal (sCell c j) 0) ∗ bigSep Finset.univ fun j : Fin 8 => semVal (rCell c j) 0) ∗ cps c) := by
  unfold Pipeline.ownSems0 cps
  rw [bigSep_univ_sum, bigSep_univ_sum, bigSep_univ_eq_bigSepL (I := Fin 2) [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

section
variable (YA YB : Dev nD → Vec F S512x1024 .bf16)

/-- What the launch element deals device `c`. -/
def G (c : Dev nD) : sProp 𝕄 :=
  iprop((bigSep Finset.univ fun k : CI => roundState ER (Rd YA YB) (kcell (c, k)) 0)
    ∗ (bigSep Finset.univ fun k : CI => iprop(atPos ER (kcell (c, k)) 0 ∅ 0 ∗ reached ER (kcell (c, k)) 0)) ∗ toks c)
def lin (c : Dev nD) : sProp 𝕄 := iprop(poss c ∗ payToks c ∗ cps c)
/-- What the global step makes of it. -/
def G' (c : Dev nD) : sProp 𝕄 := iprop(∃ K, records YA YB K ∗ lin c)

theorem fund_ring : BI.own (ER (initOf ringCells ringToks)) ⊢ (|==> bigSep Finset.univ (G YA YB) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TI]; rfl
  iintro HX
  imod (Rounds.fund ER (Rd YA YB) ringCells ringToks) $$ HX with ⟨Hst, Hr, Hat, Htok⟩
  imodintro
  ihave Hst' := (Entails.of_eq (hX fun g => roundState ER (Rd YA YB) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells allocated. -/
theorem core_alloc (c : Dev nD) :
    iprop(Pipeline.ownSems0 (Ix := Unit) (Name := ℕ) (U := UU) (Lvl := ℕ) (Val := Elt F) (τ := τ) osem c ∗ unscopedSems0 c ∗ G YA YB c)
      ⊢ |={Set.univ}=> iprop((bigSep Finset.univ fun k => iprop(∃ κ : ℕ, cellInv ER (Rd YA YB) κ (kcell (c, k))))
          ∗ (bigSep Finset.univ fun k => iprop(atPos ER (kcell (c, k)) 0 ∅ 0 ∗ reached ER (kcell (c, k)) 0)) ∗ toks c ∗ cps c) := by
  unfold G
  rw [ownSems0_eq, unscopedSems0_eq]
  iintro ⟨⟨⟨HS, HR⟩, Hcp⟩, HB, Hst, Hat, Htok⟩
  imod (show iprop((bigSep Finset.univ fun k : CI => semVal (kcell (c, k)) 0) ∗ bigSep Finset.univ fun k : CI => roundState ER (Rd YA YB) (kcell (c, k)) 0)
      ⊢ (|={Set.univ}=> bigSep Finset.univ fun k => iprop(∃ κ : ℕ, cellInv ER (Rd YA YB) κ (kcell (c, k))) : sProp 𝕄) from by
        rw [← bigSep_sep']
        exact (bigSep_mono fun k _ => (Rounds.body_intro ER (Rd YA YB) (kcell (c, k))).trans inv_alloc).trans (bigSep_fupd _ _)) $$ [HS HR HB Hst] with Hinv
  · isplitl [HS HR HB]
    · iapply (Entails.of_eq (bigSep_CI (F := F) fun k => semVal (kcell (c, k)) 0).symm)
      isplitl [HB]; · iexact HB
      isplitl [HS]; · iexact HS
      iexact HR
    · iexact Hst
  imodintro
  isplitl [Hinv]; · iexact Hinv
  isplitl [Hat]; · iexact Hat
  isplitl [Htok]; · iexact Htok
  iexact Hcp

omit [FloatOps F] in
/-- Every token goes to the device that pays it. -/
theorem toks_around : (bigSep Finset.univ fun c : Dev nD => (toks c : sProp 𝕄)) ⊢ bigSep Finset.univ fun c : Dev nD => payToks c := by
  have hr : (bigSep Finset.univ fun c : Dev nD => bigSep Finset.univ fun j : Fin 8 => (dutyTok ER (rCell c j) 0 false : sProp 𝕄))
      = bigSep Finset.univ fun c : Dev nD => bigSep Finset.univ fun j : Fin 8 => dutyTok ER (rCell (peer j c) j) 0 false := by
    rw [bigSep_univ_comm, bigSep_univ_comm (fun (c : Dev nD) (j : Fin 8) => (dutyTok ER (rCell (peer j c) j) 0 false : sProp 𝕄))]
    exact bigSep_congr fun j _ => bigSep_univ_equiv (ep j) (fun c : Dev nD => (dutyTok ER (rCell c j) 0 false : sProp 𝕄))
  unfold toks payToks
  simp only [bigSep_sep']
  rw [hr, bigSep_univ_equiv e1 (fun c : Dev nD => (dutyTok ER (barCell c) 0 false : sProp 𝕄)),
    bigSep_univ_equiv e2 (fun c : Dev nD => (dutyTok ER (barCell c) 0 true : sProp 𝕄))]
  exact BI.Entails.refl _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem lin_intro : iprop((bigSep Finset.univ fun c : Dev nD => iprop(atPos ER (barCell c) 0 ∅ 0
        ∗ (bigSep Finset.univ fun j : Fin 8 => atPos ER (sCell c j) 0 ∅ 0) ∗ bigSep Finset.univ fun j : Fin 8 => atPos ER (rCell c j) 0 ∅ 0))
      ∗ (bigSep Finset.univ fun c : Dev nD => payToks c) ∗ bigSep Finset.univ fun c : Dev nD => cps c) ⊢ (bigSep Finset.univ lin : sProp 𝕄) := by
  rw [← bigSep_sep', ← bigSep_sep']; exact BI.Entails.refl _

theorem regroup :
    (bigSep Finset.univ fun c : Dev nD => iprop((bigSep Finset.univ fun k => iprop(∃ κ : ℕ, cellInv ER (Rd YA YB) κ (kcell (c, k))))
          ∗ (bigSep Finset.univ fun k => iprop(atPos ER (kcell (c, k)) 0 ∅ 0 ∗ reached ER (kcell (c, k)) 0)) ∗ toks c ∗ cps c) : sProp 𝕄)
      ⊢ bigSep Finset.univ (G' YA YB) := by
  rw [bigSep_sep', bigSep_sep', bigSep_sep', ← bigSep_univ_prod (fun ck : Dev nD × CI => iprop(∃ κ : ℕ, cellInv ER (Rd YA YB) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)),
    bigSep_congr (s := Finset.univ) (fun (c : Dev nD) _ => bigSep_CI (F := F) (fun k : CI => (atPos ER (kcell (c, k)) 0 ∅ 0 : sProp 𝕄)))]
  iintro ⟨HI, ⟨Hat, #HR⟩, Htok, Hcp⟩
  ihave HK := (BI.bigSep_exists_pi Finset.univ (fun (ck : Dev nD × CI) (κ : ℕ) => (cellInv ER (Rd YA YB) κ (kcell ck) : sProp 𝕄))) $$ HI
  icases HK with ⟨%K, #HI⟩
  ihave Htk := (toks_around (F := F)) $$ Htok
  iapply (bigSep_with (R := records YA YB K) (Φ := lin) (Ψ := G' YA YB) fun c _ => by
    unfold G'; iintro ⟨H, H'⟩; iexists K; isplitl [H] <;> iassumption)
  isplitr
  · unfold records; isplitl; · iexact HI
    iexact HR
  · iapply (lin_intro (F := F))
    isplitl [Hat]; · iexact Hat
    isplitl [Htk]; · iexact Htk
    iexact Hcp

theorem glob : (bigSep Finset.univ fun c => iprop(Pipeline.ownSems0 (Ix := Unit) (Name := ℕ) (U := UU) (Lvl := ℕ) (Val := Elt F) (τ := τ) osem c ∗ unscopedSems0 c ∗ G YA YB c) : sProp 𝕄)
    ⊢ |={Set.univ}=> bigSep Finset.univ (G' YA YB) :=
  ((bigSep_mono fun c _ => core_alloc YA YB c).trans (bigSep_fupd _ _)).trans (BI.fupd_mono (regroup YA YB))
end

/-! ## The credits at launch -/

theorem dev_eq {a b : Dev nD} {s s' : SemLoc sig} (h : (((a : Thread nD τ), s) : GSem nD τ sig) = ((b : Thread nD τ), s')) : a = b :=
  congrArg (fun g : GSem nD τ sig => g.1.1) h
theorem rS_inj {i j : Fin 8} (h : (SemLoc.dma (rS i) : SemLoc sig) = .dma (rS j)) : i = j := by revert i j; decide
theorem rS_ne_bar (j : Fin 8) : (SemLoc.dma (rS j) : SemLoc sig) ≠ .reg barS := by intro h; cases h

theorem Ow_bar (d c : Dev nD) (n : ℕ) : Ow d n (barCell c) () = 0 :=
  Nat.eq_zero_of_not_pos fun h => by obtain ⟨j, -, hj⟩ := Ow_pos h; exact rS_ne_bar j (congrArg Prod.snd hj).symm
theorem Ow_r (d c : Dev nD) (j : Fin 8) : Ow d 0 (rCell c j) () = if d = peer j c then amt j else 0 := by
  unfold Ow
  rw [Finset.sum_apply, Finsupp.finset_sum_apply, Finset.sum_eq_single j]
  · rw [tallyAt_apply]
    by_cases h : d = peer j c
    · subst h; rw [peer_peer, if_pos ⟨rfl, rfl⟩, if_pos rfl]
    · rw [if_neg (fun h' => h (by rw [dev_eq h'.1, peer_peer])), if_neg h]
  · intro i _ hi
    rw [tallyAt_apply]
    exact if_neg fun h => hi (rS_inj (congrArg Prod.snd h.1)).symm
  · exact fun h => (h (by simp)).elim

theorem owed_bar (d c : Dev nD) : O₀ d (barCell c) () = (if d = p2 c then 1 else 0) + (if d = p1 c then 1 else 0) := by
  unfold O₀ O₁
  rw [Pi.add_apply, Finsupp.add_apply, Pi.add_apply, Finsupp.add_apply, Ow_bar, tallyAt_apply, tallyAt_apply, Nat.zero_add]
  congr 1
  · by_cases h : d = p2 c
    · subst h; rw [p2_p2, if_pos ⟨rfl, rfl⟩, if_pos rfl]
    · rw [if_neg (fun ⟨h1, _⟩ => h (by rw [dev_eq h1, p2_p2])), if_neg h]
  · by_cases h : d = p1 c
    · subst h; rw [p1_p1, if_pos ⟨rfl, rfl⟩, if_pos rfl]
    · rw [if_neg (fun ⟨h1, _⟩ => h (by rw [dev_eq h1, p1_p1])), if_neg h]
theorem owed_recv (d c : Dev nD) (j : Fin 8) : O₀ d (rCell c j) () = if d = peer j c then amt j else 0 := by
  unfold O₀ O₁
  rw [Pi.add_apply, Finsupp.add_apply, Pi.add_apply, Finsupp.add_apply, Ow_r,
    tallyAt_ne_cell (fun h => rS_ne_bar j (congrArg Prod.snd h)), tallyAt_ne_cell (fun h => rS_ne_bar j (congrArg Prod.snd h)),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]
theorem launch_recv (c : Dev nD) (j : Fin 8) :
    tallyOn (rCell c j) (launchCredit (Pipeline.owing O₀) 0 (rCell c j)) = (tallyAt (rCell c j) () (amt j) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j c) fun _ => amt j, if_pos (Finset.mem_univ _)]

/-- Device `c`'s credits. -/
def crs (c : Dev nD) : sProp 𝕄 := iprop(cred (tallyAt (barCell c) () 2) ∗ bigSep Finset.univ fun j : Fin 8 => cred (tallyAt (rCell c j) () (amt j)))

omit [FloatOps F] in
theorem creds (c : Dev nD) : (Pipeline.launchCred O₀ c : sProp 𝕄) ⊢ crs c := by
  unfold Pipeline.launchCred crs
  rw [bigSep_univ_at _ (SemLoc.reg barS), launch_bar]
  refine sep_mono_right ?_
  refine (bigSep_subset (t := Finset.univ.map ⟨fun j : Fin 8 => (SemLoc.dma (rS j) : SemLoc sig), fun _ _ h => rS_inj h⟩) ?_).trans ?_
  · intro x hx
    obtain ⟨j, -, rfl⟩ := Finset.mem_map.mp hx
    exact Finset.mem_erase.mpr ⟨rS_ne_bar j, Finset.mem_univ _⟩
  · rw [bigSep_map]
    exact bigSep_mono fun j _ => Entails.of_eq (congrArg (fun t => (cred t : sProp 𝕄)) (launch_recv c j))

omit [FloatOps F] in
/-- What the body starts from. -/
theorem pre_intro (c : Dev nD) : iprop(poss c ∗ payToks c ∗ crs c) ⊢ (iprop(barPre c ∗ preAll c) : sProp 𝕄) := by
  have h : (preAll c : sProp 𝕄) = bigSep Finset.univ fun j : Fin 8 => pre c j := (bigSep_fin8 fun j => pre c j).symm
  rw [h]
  unfold poss payToks crs barPre pre
  simp only [bigSep_sep']
  iintro ⟨⟨HaB, HaS, HaR⟩, ⟨⟨HtF, HtT⟩, HtS, HtR⟩, HcB, HcR⟩
  isplitl [HaB HtF HtT HcB]
  · isplitl [HaB]; · iexact HaB
    isplitl [HtF]; · iexact HtF
    isplitl [HtT] <;> iassumption
  isplitl [HaS]; · iexact HaS
  isplitl [HaR]; · iexact HaR
  isplitl [HtS]; · iexact HtS
  isplitl [HtR] <;> iassumption

section
variable (YA YB : Dev nD → Vec F S512x1024 .bf16) (K : Dev nD × CI → ℕ)
/-- Every cell closed after the run. -/
theorem close_all (c : Dev nD) : iprop(records YA YB K ∗ atPos ER (barCell c) 1 ∅ 0 ∗ finAll c)
    ⊢ |={Set.univ}=> iprop(semVal (barCell c) 0 ∗ (bigSep Finset.univ fun j : Fin 8 => semVal (sCell c j) 0) ∗ bigSep Finset.univ fun j : Fin 8 => semVal (rCell c j) 0) := by
  have h : (finAll c : sProp 𝕄) = bigSep Finset.univ fun j : Fin 8 => fin c j := (bigSep_fin8 fun j => fin c j).symm
  rw [h]
  iintro ⟨#HR, HB, HF⟩
  imod (Rounds.cell_close ER (Rd YA YB) (Set.mem_univ (K (cb c))) (fun h => h) (R := 1) (duties_later YA YB (barCell c))) $$ [HB] with Hb
  · isplitr; · iapply (inv_at YA YB K (cb c)); iexact HR
    iexact HB
  imod ((bigSep_with (R := records YA YB K) (Φ := fun j : Fin 8 => fin c j) fun j _ => close_copy YA YB K c j).trans (bigSep_fupd _ _)) $$ [HF] with HS
  · isplitr; · iexact HR
    iexact HF
  imodintro
  isplitl [Hb]; · iexact Hb
  iapply (Entails.of_eq (bigSep_sep' _ _ _))
  iexact HS
end

end Cert.Swa
-- ==== Proof.K.Launch.lean ====
/-
# The run

The launch put together: every device's body from what the launch deals it, and what the final memory holds.
-/
module

public import proofs.«01_k».proof.Proof.K.Ghost
public import Idealize.ShloMosaic.Lib.Pipeline.CollectiveSegs

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The staged arguments, and the two the body reads itself. -/
def xstg (c : Dev nD) : Bf F c cc0_stg0_0 := (win0_0.blk (0 : Fin 1)).view.read (Elt F) (m ((c : Thread nD τ).loc main_arg0))
def wstg (c : Dev nD) : Bf F c cc0_stg1_0 := (win0_1.blk (0 : Fin 1)).view.read (Elt F) (m ((c : Thread nD τ).loc main_arg1))
def ostg (c : Dev nD) : Bf F c cc0_stg2_0 := (win0_2.blk (0 : Fin 1)).view.read (Elt F) (m ((c : Thread nD τ).loc main_arg4))
def kArr (c : Dev nD) : Bf F c main_arg2 := m ((c : Thread nD τ).loc main_arg2)
def vArr (c : Dev nD) : Bf F c main_arg3 := m ((c : Thread nD τ).loc main_arg3)

/-- Every device's partial product, by row halves. -/
def YA (c : Dev nD) : Vec F S512x1024 .bf16 := yA c (xstg m c) (wstg m c) (ostg m c) (kArr m c) (vArr m c)
def YB (c : Dev nD) : Vec F S512x1024 .bf16 := yB c (xstg m c) (wstg m c) (ostg m c) (kArr m c) (vArr m c)
/-- The result on device `c`. -/
def outAt (c : Dev nD) : Bf F c cc0_stg3_0 := outOf (fA (YA m) c) (fB (YB m) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def start (c : Dev nD) : sProp 𝕄 :=
  iprop(G' (YA m) (YB m) c ∗ crs c ∗ levAts L lv ∗ pt c main_arg2 (kArr m c) ∗ pt c main_arg3 (vArr m c))
def Φ₀ (c : Dev nD) : sProp 𝕄 := iprop(start m c ∗ scratches c)
def Φ₁ (c : Dev nD) : sProp 𝕄 :=
  iprop((semVal (barCell c) 0 ∗ (bigSep Finset.univ fun j : Fin 8 => semVal (sCell c j) 0) ∗ bigSep Finset.univ fun j : Fin 8 => semVal (rCell c j) 0)
    ∗ cps c ∗ pt c main_arg2 (kArr m c) ∗ pt c main_arg3 (vArr m c) ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => ostg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Bf F c b, ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Bf F c b, ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m c ∗ (dats m ρ 0 c).owesAt () t₀.succ ∗ stg c cc0_stg0_0 (xstg m c) ∗ stg c cc0_stg1_0 (wstg m c) ∗ stg c cc0_stg2_0 (ostg m c) ∗ stg c cc0_stg3_0 (outAt m c))

set_option maxRecDepth 8192 in
set_option maxHeartbeats 2000000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13) (fun _ => bodyPost m ρ c)
  unfold bodyPre Φ₀ start G' lin
  iintro ⟨⟨⟨⟨%K, #HR, Hpos, Htok, Hcp⟩, Hcr, #HL, HK, HV⟩, Hscr⟩, Ho, ⟨%d0, %g0, %hg0, Hx⟩, ⟨%d1, %g1, %hg1, Hw⟩, ⟨%d2, %g2, %hg2, Hwo⟩, ⟨%d3, %g3, %hg3, Hout⟩⟩
  have hx : g0 = xstg m c := by rw [hg0]; unfold Dat.before; rw [if_pos (fetch0_0 t₀)]; rfl
  have hw : g1 = wstg m c := by rw [hg1]; unfold Dat.before; rw [if_pos (fetch0_1 t₀)]; rfl
  have ho : g2 = ostg m c := by rw [hg2]; unfold Dat.before; rw [if_pos (fetch0_2 t₀)]; rfl
  subst hx hw ho
  unfold Dat.owesAt Pipeline.owesWithin
  icases Ho with ⟨%W, %hW, HO⟩
  rw [show (dats m ρ 0 c).owed t₀.castSucc = O₀ c from rfl]
  ihave Hp := (pre_intro (F := F) c) $$ [Hpos Htok Hcr]
  · isplitl [Hpos]; · iexact Hpos
    isplitl [Htok] <;> iassumption
  icases Hp with ⟨Hbar, Hpre⟩
  unfold cps
  icases Hcp with ⟨Hc0, Hc1⟩
  iapply (wp_fupd _ _ _ _ _)
  iapply (body_run (YA m) (YB m) K c (xstg m c) (wstg m c) (ostg m c) (kArr m c) (vArr m c) rfl rfl)
  isplitr; · iexact HR
  isplitr; · iexact HL
  isplitl [Hbar]; · iexact Hbar
  isplitl [Hpre]; · iexact Hpre
  isplitl [HO]
  · iapply (Entails.of_eq (show iprop(∃ W, owes (c : Thread nD τ) (O₀ c) W) = ow c (O₀ c) from rfl))
    iexists W; iexact HO
  isplitl [Hx Hw Hwo Hout HK HV]
  · isplitl [Hx]; · iexact Hx
    isplitl [Hw]; · iexact Hw
    isplitl [Hwo]; · iexact Hwo
    isplitl [Hout]; · iexists g3; iexact Hout
    isplitl [HK] <;> iassumption
  isplitl [Hscr]; · iexact Hscr
  isplitl [Hc0]; · iexact Hc0
  isplitl [Hc1]; · iexact Hc1
  iintro ⟨HB, HF, HO, ⟨Hx, Hw, Hwo, Hout, HK, HV⟩, Hscr, Hc0, Hc1⟩
  imod (close_all (YA m) (YB m) K c) $$ [HB HF] with Hs
  · isplitr; · iexact HR
    isplitl [HB] <;> iassumption
  imodintro
  unfold bodyPost Φ₁ cps
  isplitl [Hs Hc0 Hc1 HK HV Hscr]
  · isplitl [Hs]; · iexact Hs
    isplitl [Hc0 Hc1]; · isplitl [Hc0] <;> iassumption
    isplitl [HK]; · iexact HK
    isplitl [HV] <;> iassumption
  isplitl [HO]
  · ihave HO' := (Entails.of_eq (show ow c (Ow c 8) = iprop(∃ W, owes (c : Thread nD τ) (Ow c 8) W) from rfl)) $$ HO
    icases HO' with ⟨%W', HO⟩
    unfold Dat.owesAt Pipeline.owesWithin
    iexists W'
    isplitr; · ipureintro; exact fun _ _ => Or.inl trivial
    rw [show (dats m ρ 0 c).owed t₀.succ = Ow c 8 from (Ow_end c).symm]
    iexact HO
  isplitl [Hx]
  · iexists _; isplitr; · ipureintro; rfl
    iexact Hx
  isplitl [Hw]
  · iexists _; isplitr; · ipureintro; rfl
    iexact Hw
  isplitl [Hwo]
  · iexists _; isplitr; · ipureintro; rfl
    iexact Hwo
  iexists (outOf (fA (YA m) c) (fB (YB m) c)); isplitr; · ipureintro; rfl
  iexact Hout

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (YA m) (YB m) c)
      ⊢ |={Set.univ}=> iprop(start m c ∗ emp) := by
  rw [Pipeline.unscopedRestP_none, unscopedRest0_eq]
  iintro ⟨⟨HK, HV⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HK]; · iexact HK
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- What is left after the last point: the barrier's counter, and the two arrays the body read itself. -/
def rest (c : Dev nD) : sProp 𝕄 := iprop(unscopedSems0 c ∗ pt c main_arg2 (kArr m c) ∗ pt c main_arg3 (vArr m c))

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ rest scratches
  rw [unscopedSems0_eq]
  iintro ⟨⟨HB, HS, HR⟩, Hcp, HK, HV, Hscr⟩
  isplitl [HB HK HV]
  · isplitl [HB]; · iexact HB
    isplitl [HK] <;> iassumption
  isplitl [HS HR Hcp]
  · isplitl [HS HR]; · isplitl [HS] <;> iassumption
    iexact Hcp
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every window's array at its final contents, and the two other arguments as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem rest_read (c : Dev nD) (s' : Phys nD τ sig (Elt F)) :
    iprop(rest m c ∗ SI s') ⊢ |={Set.univ}=> iprop(⌜QY m c s'.mem⌝ ∗ SI s') := by
  unfold rest kArr vArr
  iintro ⟨⟨Hu, HK, HV⟩, HSI⟩
  icombine HSI HK gives %hK
  icombine HSI HV gives %hV
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ hK, Buf.eq_of_forall_mem_univ hV⟩
  iexact HSI

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (YA m) (YB m)) (G' := G' (YA m) (YB m)) (u₀ := u₀)
    (hu₀ := by
      unfold u₀
      iintro Hu
      ihave H := (ownU_pair _ _) $$ Hu
      icases H with ⟨HP, HX⟩
      ihave H' := (own_pair_emb _ _ _) $$ HX
      icases H' with ⟨HX, -⟩
      imod (fund_ring (YA m) (YB m)) $$ [HX] with HG
      · iexact HX
      imodintro
      isplitl [HP] <;> iassumption)
    (hglob := glob (YA m) (YB m))
    (hA := fun _ _ => rfl) (hpf := fun _ k => k.elim0)
    (X := start m) (Y := rest m) (Z := fun _ => iprop(emp))
    (hX := start_intro m ρ) (hin := phi0_intro m ρ) (hout := phi1_exit m ρ)
    (QY := QY m)
    (hY := fun c s' => by
      iintro ⟨Hu, -, HSI⟩
      iapply (rest_read m c s')
      isplitl [Hu] <;> iassumption)
    (hQ := fun _ h hs => ⟨fun c => ⟨(h c).1, (h c).2.2.2⟩, sem_eq_zero hs fun c => (h c).2.2.1⟩)

/-! ## The final arrays -/

theorem finalA_in (c : Dev nD) (w : Fin cfg0.W) (h : (cfg0.win w).isOut = false) : finalA m ρ c w = m ((cfg0.win w).arr.view.loc (c : Thread nD τ)) :=
  (dats (F := F) m ρ 0 c).arrAt_in w h _

end Cert.Swa
-- ==== Proof.K.Frames.lean ====
/-
# The frames

Each program runs to its end from any memory, its arguments unchanged and every semaphore back at zero. The run is written once, for
any float values: the kernel as printed is that run at the bit patterns, its idealization the same run at the extended reals.
-/
module

public import proofs.«01_k».proof.Proof.K.Launch
public import proofs.«01_k».proof.Defs
public import proofs.«01_k».proof.Proof.Gen.Kernel
public import proofs.«01_k».proof.Proof.Gen.ReferenceIdeal.Run

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The run with the values dropped. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => by
    obtain ⟨hw, hK, hV⟩ := h.1 c
    exact ⟨(hw 0).trans (finalA_in m ρ c 0 rfl), (hw 1).trans (finalA_in m ρ c 1 rfl), hK, hV, (hw 2).trans (finalA_in m ρ c 2 rfl)⟩, h.2⟩) (run_main m ρ)

theorem frame_kernelIdeal : Cert.quiescent_KernelIdeal := fun m ρ _ => run_frame (F := Ideal) m ρ

/-- The two programs' kernel bodies and call tables are the same text. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
theorem defs_eq : Cert.Kernel.defs (F := Bits) = Cert.KernelIdeal.defs (F := Bits) := congrArg (Pipeline.defs Cert.KernelIdeal.pcfgs) defs₀_eq

theorem frame_kernel : Cert.quiescent_Kernel := fun m ρ _ => by
  rw [defs_eq]
  exact run_frame (F := Bits) m ρ

/-- The reference has no semaphore at all. -/
theorem frame_reference : Cert.quiescent_ReferenceIdeal := fun m ρ _ =>
  (θ_run Cert.ReferenceIdeal.defs _ _).mono (fun r h => ⟨fun c => (h c).2, funext fun g => by
    obtain ⟨t, sm⟩ := g
    rcases sm with q | q <;> exact q.elim0⟩) (Cert.ReferenceIdeal.Value.run (F := Ideal) m ρ)

end Cert.Swa
-- ==== Proof.K.Heads.lean ====
/-
# One head's payload, read at an entry

A row of scores, its weights as the kernel takes them and as the reference takes them, and what a head's payload is at a row and a
column. Every head's chain of payloads is one formula.
-/
module

public import proofs.«01_k».proof.Proof.K.Ends
public import Idealize.ShloMosaic.Lib.Pointwise
public import Idealize.ShloMosaic.Lib.IdealHost

@[expose] public section

noncomputable section

namespace Cert.Swa

open Cert.KernelIdeal Cert.KernelIdeal.Gen
open Idealize.ShloMosaic
open scoped BigOperators

/-! ## A row of scores -/

/-- The scale of a score, and the score of a masked pair. -/
def scl : EReal := Ideal.ofBits .f32 0x3DB504F3#32
def neg : EReal := Ideal.ofBits .f32 0xCE6E6B28#32

/-- The largest score of a row, the exponentials taken from it, and their sum. -/
def smax (s : Fin 1024 → EReal) : EReal := Finset.univ.fold max (Ideal.ofBits .f32 0xFF800000#32) s
def ew (s : Fin 1024 → EReal) (j : Fin 1024) : EReal := Ideal.exp (s j - smax s)
def esum (s : Fin 1024 → EReal) : EReal := ∑ j, ew s j
/-- A weight as the kernel takes it, and as the reference does. -/
def kwt (s : Fin 1024 → EReal) (j : Fin 1024) : EReal := ew s j * Ideal.div 1 (esum s)
def rwt (s : Fin 1024 → EReal) (j : Fin 1024) : EReal := Ideal.div (ew s j) (esum s)

/-! ## A head -/

/-- The row of scores of a query against every key, where `b` says which pairs are kept. -/
def srow (b : Fin 1024 → BitVec 1) (q : Fin 128 → EReal) (k : Fin 1024 → Fin 128 → EReal) (j : Fin 1024) : EReal :=
  if b j = 1#1 then (∑ e, q e * k j e) * scl else neg

theorem pay20_apply (mask : IVec S512x1024 1) (q : Vec Ideal S512x128 .bf16) (k v : Vec Ideal S1024x1x128 .bf16) (r : Fin 512) (d : Fin 128) :
    k0_pay20 mask q k v (ix2 r d)
      = ∑ j : Fin 1024, kwt (srow (fun j => mask (ix2 r j)) (fun e => q (ix2 r e)) (fun j e => k (ix3 j 0 e))) j * v (ix3 j 0 d) := by
  pointwise [k0_pay20]
  rfl

/-! Every head's chain of payloads is that one. -/

section Chains
variable {F : FTy → Type} [FloatOps F] (M : IVec S512x1024 1) (q : Vec F S512x128 .bf16) (k v : Vec F S1024x1x128 .bf16)

theorem chainA0 : k0_pay10 (k0_pay9 q k) v = k0_pay20 k0_pay8 q k v := rfl
theorem chainA1 : k0_pay12 (k0_pay11 M q k v) = k0_pay20 M q k v := rfl
theorem chainA2 : k0_pay13 M q k v = k0_pay20 M q k v := rfl
theorem chainA3 : k0_pay15 M q (k0_pay14 k) v = k0_pay20 M q k v := rfl
theorem chainA4 : k0_pay17 (k0_pay16 M q k) v = k0_pay20 M q k v := rfl
theorem chainA5 : k0_pay19 (k0_pay18 M q k v) = k0_pay20 M q k v := rfl
theorem chainA7 : k0_pay22 M q (k0_pay21 k) v = k0_pay20 M q k v := rfl
theorem chainB0 : k0_pay25 (iota .tc S512x1024 32 [0] iota_S512x1024_d0_w32) (iota .tc S512x1024 32 [1] iota_S512x1024_d1_w32) q k v = k0_pay20 maskB q k v := rfl
theorem chainB1 : k0_pay26 M q k v = k0_pay20 M q k v := rfl
theorem chainB2 : k0_pay28 M (k0_pay27 q k) (Scalar.ofBits .f32 0xCE6E6B28#32) v = k0_pay20 M q k v := rfl
theorem chainB3 : k0_pay31 (k0_pay29 M q k) (k0_pay30 M q k) v = k0_pay20 M q k v := rfl
theorem chainB4 : k0_pay32 M q k v = k0_pay20 M q k v := rfl
theorem chainB5 : k0_pay33 M q k v = k0_pay20 M q k v := rfl
theorem chainB6 : k0_pay35 M (k0_pay34 q k) (Scalar.ofBits .f32 0xCE6E6B28#32) v = k0_pay20 M q k v := rfl
theorem chainB7 : k0_pay38 (k0_pay36 M q k) (k0_pay37 M q k) v = k0_pay20 M q k v := rfl
end Chains

/-! ## The masks -/

/-- Whether positions `i` and `j` lie within the window, as both programs work it out. -/
def near (i j : ℕ) : BitVec 1 := IntOp.cmpi .sle (IntOp.absi (IntOp.subi (BitVec.ofNat 32 i) (BitVec.ofNat 32 j))) 128#32

theorem near_self (i : ℕ) : near i i = 1#1 := by
  unfold near; rw [show IntOp.subi (BitVec.ofNat 32 i) (BitVec.ofNat 32 i) = 0#32 from BitVec.sub_self _]; rfl

theorem maskA_apply (r : Fin 512) (j : Fin 1024) : k0_pay8 (ix2 r j) = near r.val j.val := by
  pointwise [k0_pay8, near]
  rw [show IntOp.addi (BitVec.ofNat 32 r.val) 0#32 = BitVec.ofNat 32 r.val from BitVec.add_zero _]
theorem maskB_apply (r : Fin 512) (j : Fin 1024) : maskB (ix2 r j) = near (512 + r.val) j.val := by
  pointwise [maskB, k0_pay24, near]
  rw [show IntOp.addi (BitVec.ofNat 32 r.val) 512#32 = BitVec.ofNat 32 (512 + r.val) from by
    rw [Nat.add_comm, BitVec.ofNat_add]; rfl]

/-! ## The other payloads -/

theorem pay3_apply (x : Vec Ideal S1x1024x1024 .f32) (w : Vec Ideal S1024x1024 .f32) (i k : Fin 1024) :
    k0_pay3 x w (ix2 i k) = ∑ a : Fin 1024, x (ix3 0 i a) * w (ix2 a k) := by
  pointwise [k0_pay3]
theorem pay4_eq (w : Vec Ideal S1024x1024 .f32) : k0_pay4 w = w := by
  funext i; pointwise [k0_pay4]
theorem pay65_eq (w : Vec Ideal S1024x8x128 .f32) : k0_pay6 (k0_pay5 w) = w := by
  funext i; pointwise [k0_pay6, k0_pay5]
theorem pay7_eq (w : Vec Ideal S1024x8x128 .f32) : k0_pay7 w = w := by
  funext i; pointwise [k0_pay7]
theorem pay23_apply (a : Vec Ideal S512x1024 .bf16) (w : Vec Ideal S1024x1024 .bf16) (r : Fin 512) (n : Fin 1024) :
    k0_pay23 a w (ix2 r n) = ∑ k : Fin 1024, a (ix2 r k) * w (ix2 k n) := by
  pointwise [k0_pay23]
theorem pay39_eq (a : Vec Ideal S512x1024 .bf16) (w : Vec Ideal S1024x1024 .bf16) : k0_pay39 a w = k0_pay23 a w := rfl
theorem pay44_eq (a : Vec Ideal S512x1024 .bf16) : k0_pay44 a = a := by
  funext i; pointwise [k0_pay44]

end Cert.Swa
-- ==== Proof.K.Reals.lean ====
/-
# Rows of real scores

A row whose scores are real numbers attains its largest one, so the exponentials' sum is at least 1, and multiplying by its inverse is
dividing by it.
-/
module

public import proofs.«01_k».proof.Proof.K.Heads

@[expose] public section

noncomputable section

namespace Cert.Swa

open Idealize.ShloMosaic
open scoped BigOperators

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {n : ℕ} {f : Fin n → EReal} (h : ∀ i, IsReal (f i)) : IsReal (∑ i, f i) :=
  Finset.sum_induction f IsReal (fun _ _ => IsReal.add) ⟨0, EReal.coe_zero.symm⟩ fun i _ => h i

theorem scl_real : IsReal scl := by
  unfold scl Ideal.ofBits Ideal.ieee
  dsimp only
  rw [if_neg (by decide), if_neg (by decide)]
  exact ⟨_, rfl⟩
theorem neg_real : IsReal neg := by
  unfold neg Ideal.ofBits Ideal.ieee
  dsimp only
  rw [if_neg (by decide), if_neg (by decide)]
  exact ⟨_, rfl⟩

theorem srow_real {b : Fin 1024 → BitVec 1} {q : Fin 128 → EReal} {k : Fin 1024 → Fin 128 → EReal} (hq : ∀ e, IsReal (q e)) (hk : ∀ j e, IsReal (k j e)) (j : Fin 1024) :
    IsReal (srow b q k j) := by
  unfold srow
  split
  · exact (IsReal.sum fun e => (hq e).mul (hk j e)).mul scl_real
  · exact neg_real

theorem ofBits_bot : Ideal.ofBits .f32 0xFF800000#32 = ⊥ := by simp [Ideal.ofBits, Ideal.ieee]

theorem exp_nonneg (x : EReal) : 0 ≤ Ideal.exp x := by
  induction x with
  | bot => exact le_rfl
  | top => exact le_top
  | coe r => exact EReal.coe_nonneg.mpr (Real.exp_pos r).le

/-- The largest of real scores is one of them. -/
theorem smax_attained {s : Fin 1024 → EReal} (h : ∀ j, IsReal (s j)) : ∃ j, smax s = s j := by
  have hle : ∀ j, s j ≤ smax s := fun j => (Finset.le_fold_max _).mpr (Or.inr ⟨j, Finset.mem_univ j, le_rfl⟩)
  by_contra hn
  have hlt : ∀ j, s j < smax s := fun j => lt_of_le_of_ne (hle j) fun e => hn ⟨j, e.symm⟩
  have hb : Ideal.ofBits .f32 0xFF800000#32 < smax s := by rw [ofBits_bot]; exact lt_of_le_of_lt bot_le (hlt 0)
  exact lt_irrefl (smax s) ((Finset.fold_max_lt _).mpr ⟨hb, fun j _ => hlt j⟩)

theorem esum_ne_zero {s : Fin 1024 → EReal} (h : ∀ j, IsReal (s j)) : esum s ≠ 0 := by
  obtain ⟨j, hj⟩ := smax_attained h
  have h1 : ew s j = 1 := by
    unfold ew; rw [hj]
    obtain ⟨r, hr⟩ := h j
    rw [hr, ← EReal.coe_sub, sub_self, Ideal.exp_coe, Real.exp_zero, EReal.coe_one]
  have h2 : ew s j ≤ esum s := Finset.single_le_sum (f := ew s) (fun i _ => exp_nonneg (s i - smax s)) (Finset.mem_univ j)
  rw [h1] at h2
  exact fun e => absurd (h2.trans e.le) (not_le.mpr zero_lt_one)

/-- On a row of real scores the two programs' weights agree. -/
theorem kwt_eq_rwt {s : Fin 1024 → EReal} (h : ∀ j, IsReal (s j)) (j : Fin 1024) : kwt s j = rwt s j := Ideal.mul_one_div (esum_ne_zero h)

/-- A value whose magnitude is below plus infinity is a real number. -/
theorem real_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

end Cert.Swa
-- ==== Proof.K.Reference.lean ====
/-
# The reference, entry by entry

Every entry of the reference's result is one sum over the 4096 columns of the heads, a column's entry the weighted sum of its head's
values. Every row keeps its weights: it is near itself.
-/
module

public import proofs.«01_k».proof.Proof.K.Heads
public import proofs.«01_k».proof.Proof.Gen.ReferenceIdeal.Run

@[expose] public section

noncomputable section

namespace Cert.Swa.Ref

open Cert.ReferenceIdeal Cert.ReferenceIdeal.Gen Cert.ReferenceIdeal.Value
open Idealize.ShloMosaic Idealize.ShloMosaic.TcCoe
open scoped BigOperators

/-- The disjunction of bits one of which is 1. -/
theorem ori_fold {n : ℕ} (f : Fin n → BitVec 1) (i : Fin n) (h : f i = 1#1) : Finset.fold IntOp.ori 0#1 f Finset.univ = 1#1 := by
  rw [← Finset.insert_erase (Finset.mem_univ i), Finset.fold_insert (Finset.notMem_erase i _), h]
  generalize Finset.fold IntOp.ori 0#1 f (Finset.univ.erase i) = b
  revert b; decide

/-- Sums of products that agree factor by factor on the left. -/
theorem sum_left {n : ℕ} {f g b : Fin n → EReal} (h : ∀ k, f k = g k) : ∑ k, f k * b k = ∑ k, g k * b k := Finset.sum_congr rfl fun k _ => congrArg (· * b k) (h k)

theorem select_one {α : Type} (a b : α) : Scalar.select 1#1 a b = a := rfl

/-- The reference's weight, on a row that keeps its weights. -/
theorem weight_eq (s : Fin 1024 → EReal) {o : BitVec 1} (ho : o = 1#1) (j : Fin 1024) (a b : EReal) :
    Scalar.select o (Ideal.div (Ideal.exp (s j - Finset.univ.fold max (Ideal.ofBits .f32 0xFF800000#32) s))
      (Scalar.select o (∑ l, Ideal.exp (s l - Finset.univ.fold max (Ideal.ofBits .f32 0xFF800000#32) s)) a)) b = rwt s j := by
  rw [ho, select_one, select_one]; unfold rwt ew esum ew smax; rfl

section
variable (x : Vec Ideal S1x1024x1024 .f32) (W : Vec Ideal S1024x4096 .f32) (K V : Vec Ideal S1x1024x32x128 .f32)

/-- The scores of query row `i` in head `h`. -/
def scores (i : Fin 1024) (h : Fin 32) : Fin 1024 → EReal :=
  srow (fun j => near i.val j.val) (fun e => ∑ a : Fin 1024, (x (ix3 0 i a) : EReal) * W (ix2 a ⟨h.val * 128 + e.val, by omega⟩)) (fun j e => K (ix4 0 j h e))

/-- Column `k` of the heads' weighted values, on row `i`. -/
def rctx (i : Fin 1024) (k : Fin 4096) : EReal :=
  ∑ j : Fin 1024, (V (ix4 0 j ⟨k.val / 128, by omega⟩ ⟨k.val % 128, Nat.mod_lt _ (by decide)⟩) : EReal) * rwt (scores x W K i ⟨k.val / 128, by omega⟩) j
end

set_option maxRecDepth 65536 in
theorem res_apply (m : (ℓ : Loc nD τ sig) → Buf (Elt Ideal) ℓ) (c : Dev nD) (i n : Fin 1024) :
    res_main_v34 (F := Ideal) m c (ix3 0 i n)
      = (∑ k : Fin 4096, rctx (m ((c : Thread nD τ).loc main_arg0)) (m ((c : Thread nD τ).loc main_arg1)) (m ((c : Thread nD τ).loc main_arg2)) (m ((c : Thread nD τ).loc main_arg3)) i k
          * (m ((c : Thread nD τ).loc main_arg4) (ix2 k n) : EReal) : EReal) := by
  have hor : Finset.fold IntOp.ori (0#1) (fun x : Fin 1024 => IntOp.cmpi CmpIPredicate.sle (IntOp.absi (IntOp.subi (BitVec.ofNat 32 i.val) (BitVec.ofNat 32 x.val))) 128#32) Finset.univ = 1#1 :=
    ori_fold _ i (near_self i)
  pointwise [res_main_v34]
  exact sum_left fun k => Finset.sum_congr rfl fun j _ => congrArg (fun z : EReal => _ * z)
    (weight_eq (scores (m ((c : Thread nD τ).loc main_arg0)) (m ((c : Thread nD τ).loc main_arg1)) (m ((c : Thread nD τ).loc main_arg2)) i ⟨k.val / 128, by omega⟩) hor j _ _)

end Cert.Swa.Ref
-- ==== Proof.K.Reads.lean ====
/-
# A device's partial product, entry by entry

What the two stretches leave, read back through their stores: the projected queries, the device's keys and values, the eight heads'
columns side by side, and the partial product of each row half.
-/
module

public import proofs.«01_k».proof.Proof.K.Heads
public import proofs.«01_k».proof.Proof.K.Launch
public import Idealize.ShloMosaic.Lib.VecWindow
public import Idealize.ShloMosaic.Lib.Pipeline.FrameBody

@[expose] public section

noncomputable section

namespace Cert.Swa

open Cert.KernelIdeal Cert.KernelIdeal.Gen
open Idealize.ShloMosaic Idealize.ShloMosaic.TcCoe
open scoped BigOperators

/-! ## Reading back -/

section Any
variable {F : FTy → Type} [FloatOps F]

/-- What a store of a whole buffer leaves. -/
theorem writes_full (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) :
    (View.whole b).writes (Elt F) f [⟨Rect.unit off b.ty.shape.size inb, w⟩] = w := by
  rw [← View.read_whole (Val := Elt F) b ((View.whole b).writes (Elt F) f _)]
  exact View.read_writes_full _ _ inb w []

/-- What a load of a whole buffer reads. -/
theorem readAt_all (b : Ref sig .tc) (f : b.ty.Contents (Elt F)) {off : Fin b.ty.shape.rank → ℕ} (inb : ∀ a, off a + b.ty.shape.size a ≤ b.ty.shape.size a) :
    View.readAt (Elt F) (Memref.whole b).view (Rect.unit off b.ty.shape.size inb).toLoadRect f = f := by
  rw [View.readAt_full]; exact View.read_whole b f

theorem inbC {o h : ℕ} (ho : o ≤ 512) (hh : h < 8) : ∀ a, (![o, 128 * h] : Fin 2 → ℕ) a + S512x128.size a ≤ S1024x1024.size a := by
  intro a; match a with
  | ⟨0, _⟩ => show o + 512 ≤ 1024; omega
  | ⟨1, _⟩ => show 128 * h + 128 ≤ 1024; omega

/-- A head's columns of the queries, from row `o` on, and a head's keys or values. -/
def qcols (o h : ℕ) (ho : o ≤ 512) (hh : h < 8) (f : Vec F S1024x1024 .bf16) : Vec F S512x128 .bf16 :=
  View.readAt (Elt F) (Memref.whole cc0_scratch5).view (Rect.unit (s := S1024x1024) ![o, 128 * h] S512x128.size
    (inbC ho hh)).toLoadRect f
theorem inbKV {h : ℕ} (hh : h < 8) : ∀ a, (![0, h, 0] : Fin 3 → ℕ) a + S1024x1x128.size a ≤ S1024x8x128.size a := by
  intro a; match a with
  | ⟨0, _⟩ => show 0 + 1024 ≤ 1024; omega
  | ⟨1, _⟩ => show h + 1 ≤ 8; omega
  | ⟨2, _⟩ => show 0 + 128 ≤ 128; omega
def kcols (h : ℕ) (hh : h < 8) (f : Vec F S1024x8x128 .bf16) : Vec F S1024x1x128 .bf16 :=
  View.readAt (Elt F) (Memref.whole cc0_scratch2).view (Rect.unit (s := S1024x8x128) ![0, h, 0] S1024x1x128.size (inbKV hh)).toLoadRect f
def vcols (h : ℕ) (hh : h < 8) (f : Vec F S1024x8x128 .bf16) : Vec F S1024x1x128 .bf16 :=
  View.readAt (Elt F) (Memref.whole cc0_scratch3).view (Rect.unit (s := S1024x8x128) ![0, h, 0] S1024x1x128.size (inbKV hh)).toLoadRect f

section
variable (M : IVec S512x1024 1) (fq : Vec F S1024x1024 .bf16) (fk fv : Vec F S1024x8x128 .bf16) (o : ℕ) (ho : o ≤ 512)

/-- What a head leaves. -/
def headP (h : ℕ) (hh : h < 8) : FVec F S512x128 .bf16 := k0_pay20 M (qcols o h ho hh fq) (kcols h hh fk) (vcols h hh fv)

/-- The stores of the first `n` heads, the last first. -/
def cols : (n : ℕ) → n ≤ 8 → List (View.Piece (Elt F) S1024x1024 .bf16)
  | 0, _ => []
  | n + 1, hn => ⟨Rect.unit (s := S1024x1024) ![o, 128 * n] S512x128.size (inbC ho hn), headP M fq fk fv o ho n hn⟩ :: cols n (Nat.le_of_succ_le hn)

theorem canon_cols (n : ℕ) (hn : n ≤ 8) (h : ℕ) (hh : h < n) (r : Fin 512) (d : Fin 128) (i k : Fin 1024) (hi : i.val = o + r.val) (hk : k.val = 128 * h + d.val) :
    View.canon (cols M fq fk fv o ho n hn) (ix2 i k) = headP M fq fk fv o ho h (lt_of_lt_of_le hh hn) (ix2 r d) := by
  induction n with
  | zero => exact absurd hh (Nat.not_lt_zero h)
  | succ n ih =>
    unfold cols
    by_cases e : h = n
    · subst e
      have he : (Rect.unit (s := S1024x1024) ![o, 128 * h] S512x128.size (inbC ho hn)).emb (ix2 r d) = ix2 i k := by
        funext a
        refine Fin.ext ((ValueKit.rect_emb_unit_val _ _ _ (ix2 r d) a).trans ?_)
        match a with
        | ⟨0, _⟩ => exact hi.symm
        | ⟨1, _⟩ => exact hk.symm
      rw [← he]; exact View.canon_cons_emb _ _ _ _
    · rw [View.canon_cons_of_not_mem]
      · exact ih _ (by omega)
      · intro hm
        have hm' : ix2 i k ∈ (Rect.unit (s := S1024x1024) ![o, 128 * n] S512x128.size (inbC ho hn)).set := hm
        have h1 := (Rect.mem_set_unit.mp hm' ⟨1, by decide⟩).1
        have h2 : 128 * n ≤ k.val := h1
        have := d.isLt
        omega

theorem qcols_apply (h : ℕ) (hh : h < 8) (r : Fin 512) (e : Fin 128) (i k : Fin 1024) (hi : i.val = o + r.val) (hk : k.val = 128 * h + e.val) :
    qcols o h ho hh fq (ix2 r e) = fq (ix2 i k) := by
  refine congrArg fq (?_ : (Rect.unit (s := S1024x1024) ![o, 128 * h] S512x128.size _).toLoadRect.idx (ix2 r e) = ix2 i k)
  funext a
  refine Fin.ext ?_
  match a with
  | ⟨0, _⟩ => exact (show o + 1 * r.val = i.val by omega)
  | ⟨1, _⟩ => exact (show 128 * h + 1 * e.val = k.val by omega)
theorem kv_idx (h : ℕ) (hh : h < 8) (j : Fin 1024) (e : Fin 128) :
    (Rect.unit (s := S1024x8x128) ![0, h, 0] S1024x1x128.size (inbKV hh)).toLoadRect.idx (ix3 j 0 e) = ix3 j ⟨h, hh⟩ e := by
  funext a
  refine Fin.ext ?_
  match a with
  | ⟨0, _⟩ => exact (show 0 + 1 * j.val = j.val by omega)
  | ⟨1, _⟩ => exact (show h + 1 * 0 = h by omega)
  | ⟨2, _⟩ => exact (show 0 + 1 * e.val = e.val by omega)
theorem kcols_apply (h : ℕ) (hh : h < 8) (j : Fin 1024) (e : Fin 128) : kcols h hh fk (ix3 j 0 e) = fk (ix3 j ⟨h, hh⟩ e) := congrArg fk (kv_idx h hh j e)
theorem vcols_apply (h : ℕ) (hh : h < 8) (j : Fin 1024) (e : Fin 128) : vcols h hh fv (ix3 j 0 e) = fv (ix3 j ⟨h, hh⟩ e) := congrArg fv (kv_idx h hh j e)

end

/-! ## What the first stretch leaves -/

section
variable (c : Dev nD) (fx : Bf F c cc0_stg0_0) (fw : Bf F c cc0_stg1_0) (fo : Bf F c cc0_stg2_0) (fK : Bf F c main_arg2) (fV : Bf F c main_arg3)

theorem qA_eq : (runA c fx fw fo fK fV).1.q = k0_pay3 fx fw := by
  unfold runA; dsimp only
  exact (writes_full cc0_scratch5 (View.whole cc0_scratch5).junk inb_S1024x1024_S1024x1024_0_0 _).trans
    (congrArg₂ k0_pay3 (readAt_all cc0_stg0_0 fx _) (readAt_all cc0_stg1_0 fw _))
theorem wobA_eq : (runA c fx fw fo fK fV).1.wob = k0_pay4 fo := by
  unfold runA; dsimp only
  exact (writes_full cc0_scratch4 (View.whole cc0_scratch4).junk inb_S1024x1024_S1024x1024_0_0 _).trans (congrArg k0_pay4 (readAt_all cc0_stg2_0 fo _))

theorem kbA_eq : (runA c fx fw fo fK fV).1.kb = k0_pay6 (k0_pay5 (runA.sl.dma0 c fK)) := by
  unfold runA; dsimp only
  exact (writes_full cc0_scratch2 (View.whole cc0_scratch2).junk inb_S1024x8x128_S1024x8x128_0_0_0 _).trans
    (congrArg (fun f => k0_pay6 (k0_pay5 f)) (readAt_all cc0_scratch0 (runA.sl.dma0 c fK) _))
theorem vbA_eq : (runA c fx fw fo fK fV).1.vb = k0_pay7 (runA.sl.dma0_1 c fV) := by
  unfold runA; dsimp only
  exact (writes_full cc0_scratch3 (View.whole cc0_scratch3).junk inb_S1024x8x128_S1024x8x128_0_0_0 _).trans
    (congrArg k0_pay7 (readAt_all cc0_scratch1 (runA.sl.dma0_1 c fV) _))

theorem off1_eq (c : Dev nD) : k0_off1 c = ![0, 0, 8 * c.val, 0] := by revert c; decide

theorem sq_idx (j : Fin 1024) (h : Fin 8) (d : Fin 128) :
    (Shape.reshapeEquiv squeezes_S1x1024x8x128_S1024x8x128.numel_eq (ix3 j h d)) = (ix4 0 j h d : S1x1024x8x128.Idx) := by
  exact ValueIdx.reshapeEquiv_ix3_1abc _ j h d

theorem slab_idx (j : Fin 1024) (h : Fin 8) (d : Fin 128) (H : Fin 32) (hH : H.val = 8 * c.val + h.val) :
    (Rect.unit (s := S1x1024x32x128) (k0_off1 c) S1x1024x8x128.size (k0_off1_inb c)).emb
      (Shape.reshapeEquiv squeezes_S1x1024x8x128_S1024x8x128.numel_eq (ix3 j h d)) = (ix4 0 j H d : S1x1024x32x128.Idx) := by
  rw [sq_idx j h d]
  funext a
  refine Fin.ext ((ValueKit.rect_emb_unit_val _ _ _ _ a).trans ?_)
  refine (congrArg (· + _) (congrFun (off1_eq c) a)).trans ?_
  match a with
  | ⟨0, _⟩ => rfl
  | ⟨1, _⟩ => exact Nat.zero_add _
  | ⟨2, _⟩ => exact hH.symm
  | ⟨3, _⟩ => exact Nat.zero_add _
/-- Device `c`'s heads of the keys, and of the values. -/
theorem dmaK_apply (j : Fin 1024) (h : Fin 8) (d : Fin 128) (H : Fin 32) (hH : H.val = 8 * c.val + h.val) :
    (runA.sl.dma0 c fK : Vec F S1024x8x128 .f32) (ix3 j h d) = (fK : Vec F S1x1024x32x128 .f32) (ix4 0 j H d) :=
  congrArg (fK : Vec F S1x1024x32x128 .f32) (slab_idx c j h d H hH)
theorem dmaV_apply (j : Fin 1024) (h : Fin 8) (d : Fin 128) (H : Fin 32) (hH : H.val = 8 * c.val + h.val) :
    (runA.sl.dma0_1 c fV : Vec F S1024x8x128 .f32) (ix3 j h d) = (fV : Vec F S1x1024x32x128 .f32) (ix4 0 j H d) :=
  congrArg (fV : Vec F S1x1024x32x128 .f32) (slab_idx c j h d H hH)

/-- The first half's heads, side by side. -/
theorem colsA : runA.sl.H6_8 c fx fw fK fV = cols k0_pay8 (runA c fx fw fo fK fV).1.q (runA c fx fw fo fK fV).1.kb (runA c fx fw fo fK fV).1.vb 0 (by omega) 8 (le_refl 8) := by
  unfold runA; dsimp only
  rfl
set_option maxRecDepth 65536 in
theorem colsB (fkb : Bf F c cc0_scratch2) (fvb : Bf F c cc0_scratch3) (fq : Bf F c cc0_scratch5) :
    runB.sl.H6_8 c fkb fvb fq maskB (headB0 fq fkb fvb) = cols maskB fq fkb fvb 512 (by omega) 8 (le_refl 8) := by
  rfl

set_option maxRecDepth 65536 in
theorem yA_eq : yA c fx fw fo fK fV = k0_pay23 (runA.sl.v336 c fx fw fK fV) (k0_pay4 fo) := by
  unfold yA runA; dsimp only
  exact (writes_full cc0_scratch7 (View.whole cc0_scratch7).junk inb_S512x1024_S512x1024_0_0 _).trans
    (congrArg (k0_pay23 _) ((View.readCov_full (View.whole cc0_scratch4) inb_S1024x1024_S1024x1024_0_0 inb_S1024x1024_S1024x1024_0_0 _ []).trans
      (congrArg k0_pay4 (readAt_all cc0_stg2_0 fo _))))
theorem runB_eq (fkb : Bf F c cc0_scratch2) (fvb : Bf F c cc0_scratch3) (fwob : Bf F c cc0_scratch4) (fq : Bf F c cc0_scratch5) (v356 : IVec S512x1024 1) (v383 : FVec F S512x128 .bf16) :
    (runB c fkb fvb fwob fq v356 v383).1 = k0_pay39 (runB.sl.v573 c fkb fvb fq v356 v383) fwob := by
  unfold runB; dsimp only [id]
  exact (writes_full cc0_scratch8 (View.whole cc0_scratch8).junk inb_S512x1024_S512x1024_0_0 _).trans
    (congrArg (k0_pay39 _) (readAt_all cc0_scratch4 fwob _))

set_option maxRecDepth 65536 in
/-- The heads' columns read back, row half by row half. -/
theorem v336_apply (h : ℕ) (hh : h < 8) (r : Fin 512) (d : Fin 128) (k : Fin 1024) (hk : k.val = 128 * h + d.val) :
    (runA.sl.v336 c fx fw fK fV : Vec F S512x1024 .bf16) (ix2 r k)
      = headP k0_pay8 (runA c fx fw fo fK fV).1.q (runA c fx fw fo fK fV).1.kb (runA c fx fw fo fK fV).1.vb 0 (by omega) h hh (ix2 r d) := by
  unfold runA.sl.v336
  rw [colsA c fx fw fo fK fV, View.readCov_eq_canon']
  have hi : (Rect.unit (s := S1024x1024) ![0, 0] S512x1024.size inb_S1024x1024_S512x1024_0_0).toLoadRect.idx (ix2 r k)
      = ix2 (⟨r.val, by omega⟩ : Fin 1024) k := by
    funext a; refine Fin.ext ?_
    match a with
    | ⟨0, _⟩ => exact (show 0 + 1 * r.val = r.val by omega)
    | ⟨1, _⟩ => exact (show 0 + 1 * k.val = k.val by omega)
  refine (congrArg _ hi).trans ?_
  exact canon_cols _ _ _ _ 0 _ 8 _ h hh r d _ k (Nat.zero_add _).symm hk
set_option maxRecDepth 65536 in
theorem v573_apply (fkb : Bf F c cc0_scratch2) (fvb : Bf F c cc0_scratch3) (fq : Bf F c cc0_scratch5)
    (h : ℕ) (hh : h < 8) (r : Fin 512) (d : Fin 128) (k : Fin 1024) (hk : k.val = 128 * h + d.val) :
    (runB.sl.v573 c fkb fvb fq maskB (headB0 fq fkb fvb) : Vec F S512x1024 .bf16) (ix2 r k) = headP maskB fq fkb fvb 512 (by omega) h hh (ix2 r d) := by
  unfold runB.sl.v573
  rw [colsB c fkb fvb fq, View.readCov_eq_canon']
  have hi : (Rect.unit (s := S1024x1024) ![512, 0] S512x1024.size inb_S1024x1024_S512x1024_512_0).toLoadRect.idx (ix2 r k)
      = ix2 (⟨512 + r.val, by omega⟩ : Fin 1024) k := by
    funext a; refine Fin.ext ?_
    match a with
    | ⟨0, _⟩ => exact (show 512 + 1 * r.val = 512 + r.val by omega)
    | ⟨1, _⟩ => exact (show 0 + 1 * k.val = k.val by omega)
  refine (congrArg _ hi).trans ?_
  exact canon_cols _ _ _ _ 512 _ 8 _ h hh r d _ k rfl hk
end
end Any

/-! ## The partial product over the extended reals -/

/-- The attention a device works out for row `i` and its column `k`, which lies in its head `k / 128`. -/
def lctx (c : Dev nD) (fx : Vec Ideal S1x1024x1024 .f32) (fw : Vec Ideal S1024x1024 .f32) (fK fV : Vec Ideal S1x1024x32x128 .f32) (i k : Fin 1024) : EReal :=
  ∑ j : Fin 1024, kwt (srow (fun j => near i.val j.val) (fun e => ∑ a : Fin 1024, fx (ix3 0 i a) * fw (ix2 a ⟨128 * (k.val / 128) + e.val, by omega⟩))
      (fun j e => fK (ix4 0 j ⟨8 * c.val + k.val / 128, by have : c.val < 4 := c.isLt; omega⟩ e))) j
    * fV (ix4 0 j ⟨8 * c.val + k.val / 128, by have : c.val < 4 := c.isLt; omega⟩ ⟨k.val % 128, Nat.mod_lt _ (by omega)⟩)

section
variable (c : Dev nD) (fx : Vec Ideal S1x1024x1024 .f32) (fw fo : Vec Ideal S1024x1024 .f32) (fK fV : Vec Ideal S1x1024x32x128 .f32)

theorem headP_apply (M : IVec S512x1024 1) (o : ℕ) (ho : o ≤ 512) (hM : ∀ (r : Fin 512) (j : Fin 1024), M (ix2 r j) = near (o + r.val) j.val)
    (r : Fin 512) (i k : Fin 1024) (hi : i.val = o + r.val) :
    headP M (runA c fx fw fo fK fV).1.q (runA c fx fw fo fK fV).1.kb (runA c fx fw fo fK fV).1.vb o ho (k.val / 128) (by omega) (ix2 r ⟨k.val % 128, Nat.mod_lt _ (by omega)⟩)
      = lctx c fx fw fK fV i k := by
  unfold headP lctx
  rw [pay20_apply, kbA_eq, vbA_eq, qA_eq, pay65_eq, pay7_eq]
  refine Finset.sum_congr rfl fun j _ => ?_
  have hq : (fun e : Fin 128 => qcols o (k.val / 128) ho (by omega) (k0_pay3 fx fw) (ix2 r e))
      = fun e => ∑ a : Fin 1024, fx (ix3 0 i a) * fw (ix2 a ⟨128 * (k.val / 128) + e.val, by omega⟩) := by
    funext e
    exact (qcols_apply (k0_pay3 fx fw) o ho (k.val / 128) (by omega) r e i ⟨128 * (k.val / 128) + e.val, by omega⟩ hi rfl).trans (pay3_apply _ _ _ _)
  have hk : (fun (j : Fin 1024) (e : Fin 128) => (kcols (F := Ideal) (k.val / 128) (by omega) (runA.sl.dma0 c fK) (ix3 j 0 e) : EReal))
      = fun (j : Fin 1024) (e : Fin 128) => fK (ix4 0 j ⟨8 * c.val + k.val / 128, by have : c.val < 4 := c.isLt; omega⟩ e) := by
    funext j e
    exact (kcols_apply (F := Ideal) (runA.sl.dma0 c fK) (k.val / 128) (by omega) j e).trans (dmaK_apply c fK j _ e _ rfl)
  have hv : (vcols (F := Ideal) (k.val / 128) (by omega) (runA.sl.dma0_1 c fV) (ix3 j 0 ⟨k.val % 128, Nat.mod_lt _ (by omega)⟩) : EReal)
      = fV (ix4 0 j ⟨8 * c.val + k.val / 128, by have : c.val < 4 := c.isLt; omega⟩ ⟨k.val % 128, Nat.mod_lt _ (by omega)⟩) :=
    (vcols_apply (F := Ideal) (runA.sl.dma0_1 c fV) (k.val / 128) (by omega) j _).trans (dmaV_apply c fV j _ _ _ rfl)
  rw [hq, hk, hv]
  have hm : (fun j : Fin 1024 => M (ix2 r j)) = fun j => near i.val j.val := by
    funext j; rw [hM, hi]
  rw [hm]

/-- **Device `c`'s partial product at row `i` and column `n`**, in either row half. -/
theorem yA_apply (r : Fin 512) (n i : Fin 1024) (hi : i.val = r.val) :
    yA c fx fw fo fK fV (ix2 r n) = ∑ k : Fin 1024, lctx c fx fw fK fV i k * fo (ix2 k n) := by
  rw [yA_eq, pay23_apply, pay4_eq]
  refine Finset.sum_congr rfl fun k _ => ?_
  rw [v336_apply c fx fw fo fK fV (k.val / 128) (by omega) r ⟨k.val % 128, Nat.mod_lt _ (by omega)⟩ k (Nat.div_add_mod _ _).symm,
    headP_apply c fx fw fo fK fV k0_pay8 0 (by omega) (fun r j => by rw [maskA_apply, Nat.zero_add]) r i k (by omega)]
theorem yB_apply (r : Fin 512) (n i : Fin 1024) (hi : i.val = 512 + r.val) :
    yB c fx fw fo fK fV (ix2 r n) = ∑ k : Fin 1024, lctx c fx fw fK fV i k * fo (ix2 k n) := by
  unfold yB
  rw [runB_eq, pay39_eq, pay23_apply, wobA_eq, pay4_eq]
  refine Finset.sum_congr rfl fun k _ => ?_
  rw [v573_apply c _ _ _ (k.val / 128) (by omega) r ⟨k.val % 128, Nat.mod_lt _ (by omega)⟩ k (Nat.div_add_mod _ _).symm,
    headP_apply c fx fw fo fK fV maskB 512 (by omega) maskB_apply r i k hi]
end

end Cert.Swa
-- ==== Proof.K.Reduce.lean ====
/-
# What the devices end with

The four devices' partial products are added pairwise, twice, in two orders; every row of a half ends, on every device, at the sum of
all four, whichever partner it came from. The result's array ends at these rows.
-/
module

public import proofs.«01_k».proof.Proof.K.Reads
public import Idealize.ShloMosaic.Lib.Pipeline.ValueKit

@[expose] public section

noncomputable section

namespace Cert.Swa

open Cert.KernelIdeal Cert.KernelIdeal.Gen
open Idealize.ShloMosaic Idealize.ShloMosaic.TcCoe
open scoped BigOperators

/-! ## The sums -/

section Sums
variable (Y : Dev nD → Vec Ideal S512x1024 .bf16)

theorem a2_apply (c : Dev nD) (x : S512x1024.Idx) : a2 (F := Ideal) Y c x = ∑ d : Dev nD, (Y d x : EReal) := by
  show ((Y c x : EReal) + Y (p1 c) x) + (Y (p2 c) x + Y (p1 (p2 c)) x) = _
  refine Eq.trans ?_ (Fin.sum_univ_four (fun d : Fin 4 => (Y d x : EReal))).symm
  match c with
  | 0 => show ((Y 0 x : EReal) + Y 1 x) + (Y 3 x + Y 2 x) = _; ac_rfl
  | 1 => show ((Y 1 x : EReal) + Y 0 x) + (Y 2 x + Y 3 x) = _; ac_rfl
  | 2 => show ((Y 2 x : EReal) + Y 3 x) + (Y 1 x + Y 0 x) = _; ac_rfl
  | 3 => show ((Y 3 x : EReal) + Y 2 x) + (Y 0 x + Y 1 x) = _; ac_rfl
theorem b2_apply (c : Dev nD) (x : S512x1024.Idx) : b2 (F := Ideal) Y c x = ∑ d : Dev nD, (Y d x : EReal) := by
  show ((Y c x : EReal) + Y (p2 c) x) + (Y (p1 c) x + Y (p2 (p1 c)) x) = _
  refine Eq.trans ?_ (Fin.sum_univ_four (fun d : Fin 4 => (Y d x : EReal))).symm
  match c with
  | 0 => show ((Y 0 x : EReal) + Y 3 x) + (Y 1 x + Y 2 x) = _; ac_rfl
  | 1 => show ((Y 1 x : EReal) + Y 2 x) + (Y 0 x + Y 3 x) = _; ac_rfl
  | 2 => show ((Y 2 x : EReal) + Y 1 x) + (Y 3 x + Y 0 x) = _; ac_rfl
  | 3 => show ((Y 3 x : EReal) + Y 0 x) + (Y 2 x + Y 1 x) = _; ac_rfl

/-- Rows put together from two functions that agree. -/
theorem piecewise_agree {ι β : Type} (s : Finset ι) [∀ j, Decidable (j ∈ s)] {f g : ι → β} {x : ι} {v : β} (hf : f x = v) (hg : g x = v) : s.piecewise f g x = v := by
  by_cases h : x ∈ s
  · exact (Finset.piecewise_eq_of_mem s f g h).trans hf
  · exact (Finset.piecewise_eq_of_notMem s f g h).trans hg

theorem kA_apply (c : Dev nD) (x : S512x1024.Idx) : kA (F := Ideal) Y c x = ∑ d : Dev nD, (Y d x : EReal) := piecewise_agree _ (a2_apply Y _ x) (a2_apply Y _ x)
theorem kB_apply (c : Dev nD) (x : S512x1024.Idx) : kB (F := Ideal) Y c x = ∑ d : Dev nD, (Y d x : EReal) := piecewise_agree _ (b2_apply Y _ x) (b2_apply Y _ x)
theorem fA_apply (c : Dev nD) (x : S512x1024.Idx) : fA (F := Ideal) Y c x = ∑ d : Dev nD, (Y d x : EReal) := piecewise_agree _ (kA_apply Y _ x) (kA_apply Y _ x)
theorem fB_apply (c : Dev nD) (x : S512x1024.Idx) : fB (F := Ideal) Y c x = ∑ d : Dev nD, (Y d x : EReal) := piecewise_agree _ (kB_apply Y _ x) (kB_apply Y _ x)

end Sums

/-! ## The staged blocks are the arrays -/

section Staged
variable {F : FTy → Type} [FloatOps F] (m : (ℓ : Loc nD τ sig) → Buf (Elt F) ℓ) (ρ : Dev nD → PrngReg) (c : Dev nD)

theorem xstg_eq : xstg m c = m ((c : Thread nD τ).loc main_arg0) := by
  funext y; unfold xstg; rw [View.read_apply]
  exact congrArg (m ((c : Thread nD τ).loc main_arg0)) (funext fun a => Fin.ext (win0_0.rect_emb_val_of_index_zero (0 : Fin 1) a rfl y))
theorem wstg_eq : wstg m c = m ((c : Thread nD τ).loc main_arg1) := by
  funext y; unfold wstg; rw [View.read_apply]
  exact congrArg (m ((c : Thread nD τ).loc main_arg1)) (funext fun a => Fin.ext (win0_1.rect_emb_val_of_index_zero (0 : Fin 1) a rfl y))
theorem ostg_eq : ostg m c = m ((c : Thread nD τ).loc main_arg4) := by
  funext y; unfold ostg; rw [View.read_apply]
  exact congrArg (m ((c : Thread nD τ).loc main_arg4)) (funext fun a => Fin.ext (win0_2.rect_emb_val_of_index_zero (0 : Fin 1) a rfl y))

/-- The result's array ends at what the body left in its staging buffer. -/
theorem finalA_out : finalA m ρ c 3 = outAt m c := by
  funext i
  refine ((dats (F := F) m ρ 0 c).arrAt_emb_eq_after_last 3 t₀ (by decide +kernel) i).trans ?_
  rfl

end Staged

/-! ## The result, entry by entry -/

/-- An entry of the result: over the devices, over the columns of a device's heads. -/
theorem outAt_apply (m : (ℓ : Loc nD τ sig) → Buf (Elt Ideal) ℓ) (c : Dev nD) (i n : Fin 1024) :
    outAt m c (ix3 0 i n) = ∑ d : Dev nD, ∑ k : Fin 1024,
      lctx d (xstg m d) (wstg m d) (kArr m d) (vArr m d) i k * (ostg m d (ix2 k n) : EReal) := by
  unfold outAt outOf
  by_cases h : i.val < 512
  · refine (dif_pos h).trans ?_
    rw [pay44_eq]
    refine (fA_apply (YA m) c _).trans (Finset.sum_congr rfl fun d _ => ?_)
    exact yA_apply d (xstg m d) (wstg m d) (ostg m d) (kArr m d) (vArr m d) ⟨i.val, h⟩ n i rfl
  · refine (dif_neg h).trans ?_
    rw [pay44_eq]
    refine (fB_apply (YB m) c _).trans (Finset.sum_congr rfl fun d _ => ?_)
    exact yB_apply d (xstg m d) (wstg m d) (ostg m d) (kArr m d) (vArr m d) ⟨i.val - 512, by omega⟩ n i (by show i.val = 512 + (i.val - 512); omega)

end Cert.Swa
-- ==== Proof.K.Value.lean ====
/-
# The two results agree

The kernel's result is a sum over devices of sums over a device's 1024 columns; the reference's is one sum over all 4096. Device `d`'s
column `k` is column `1024 d + k`, which lies in head `8 d + k / 128`.
-/
module

public import proofs.«01_k».proof.Defs
public import proofs.«01_k».proof.Proof.K.Reals
public import proofs.«01_k».proof.Proof.K.Reference
public import proofs.«01_k».proof.Proof.K.Reduce
public import proofs.«01_k».proof.Proof.K.Frames

@[expose] public section

noncomputable section

/-! ## The precondition's side conditions -/

namespace Cert.Swa
theorem facts_preK : Cert.Pre_finite_scores_KernelIdeal.Facts where
  bcast_S_S1x1024x1024 := by decide
  bcast_S_S1024x1024 := by decide
  bcast_S_S1x1024x32x128 := by decide
theorem facts_preR : Cert.Pre_finite_scores_ReferenceIdeal.Facts where
  bcast_S_S1x1024x1024 := by decide
  bcast_S_S1024x4096 := by decide
  bcast_S_S1x1024x32x128 := by decide
end Cert.Swa

namespace Cert.Swa

open Cert.KernelIdeal Cert.KernelIdeal.Gen
open Idealize.ShloMosaic Idealize.ShloMosaic.TcCoe Idealize.SL.Sem
open scoped BigOperators

/-! ## The columns -/

/-- Column `k` of device `d` among all 4096. -/
def col (d : Dev nD) (k : Fin 1024) : Fin 4096 := ⟨k.val + 1024 * d.val, by have : d.val < 4 := d.isLt; omega⟩

theorem sum_cols (f : Fin 4096 → EReal) : ∑ k : Fin 4096, f k = ∑ d : Dev nD, ∑ k : Fin 1024, f (col d k) :=
  ((Fintype.sum_equiv (finProdFinEquiv (m := 4) (n := 1024)) (fun p => f (col p.1 p.2)) f fun p => congrArg f (Fin.ext rfl)).symm).trans
    (Fintype.sum_prod_type fun p : Fin 4 × Fin 1024 => f (col p.1 p.2))

section
variable (W : Vec Ideal Cert.ReferenceIdeal.S1024x4096 .f32) (O : Vec Ideal Cert.ReferenceIdeal.S4096x1024 .f32) (d : Dev nD)

theorem blockW_apply (a l : Fin 1024) : Layout.block ⟨2, ![1024, 1024]⟩ ⟨2, ![1024, 4096]⟩ 1 4 d W (by decide) (ix2 a l) = W (ix2 a (col d l)) := by
  rw [Layout.block_apply]
  refine congrArg W (funext fun b => Fin.ext ?_)
  match b with
  | 0 => rfl
  | 1 => show d.val * 1024 + l.val = l.val + 1024 * d.val; omega
theorem blockO_apply (k n : Fin 1024) : Layout.block ⟨2, ![1024, 1024]⟩ ⟨2, ![4096, 1024]⟩ 0 4 d O (by decide) (ix2 k n) = O (ix2 (col d k) n) := by
  rw [Layout.block_apply]
  refine congrArg O (funext fun b => Fin.ext ?_)
  match b with
  | 0 => show d.val * 1024 + k.val = k.val + 1024 * d.val; omega
  | 1 => rfl
end

/-! ## A device's columns are the reference's -/

theorem lctx_eq (d : Dev nD) (x : Vec Ideal S1x1024x1024 .f32) (w : Vec Ideal S1024x1024 .f32) (K V : Vec Ideal S1x1024x32x128 .f32)
    (W : Vec Ideal Cert.ReferenceIdeal.S1024x4096 .f32) (hW : ∀ a l : Fin 1024, w (ix2 a l) = W (ix2 a (col d l)))
    (hx : ∀ y, IsReal (x y)) (hw : ∀ y, IsReal (w y)) (hK : ∀ y, IsReal (K y)) (i k : Fin 1024) :
    lctx d x w K V i k = Ref.rctx x W K V i (col d k) := by
  have hd : d.val < 4 := d.isLt
  unfold lctx Ref.rctx
  refine Finset.sum_congr rfl fun j _ => ?_
  rw [kwt_eq_rwt (srow_real (fun e => IsReal.sum fun a => (hx _).mul (hw _)) fun j e => hK _), mul_comm]
  have hh : (⟨8 * d.val + k.val / 128, by omega⟩ : Fin 32) = ⟨(col d k).val / 128, by have := (col d k).isLt; omega⟩ := Fin.ext (by show 8 * d.val + k.val / 128 = (k.val + 1024 * d.val) / 128; omega)
  have hm : (⟨k.val % 128, Nat.mod_lt _ (by omega)⟩ : Fin 128) = ⟨(col d k).val % 128, Nat.mod_lt _ (by omega)⟩ := Fin.ext (by show k.val % 128 = (k.val + 1024 * d.val) % 128; omega)
  rw [hh, hm]
  refine congrArg (fun s => _ * rwt s j) ?_
  unfold Ref.scores
  refine congrArg (fun q => srow _ q _) (funext fun e => Finset.sum_congr rfl fun a _ => ?_)
  rw [hW]
  refine congrArg (fun l => x (ix3 0 i a) * W (ix2 a l)) (Fin.ext ?_)
  show 128 * (k.val / 128) + e.val + 1024 * d.val = (k.val + 1024 * d.val) / 128 * 128 + e.val
  omega

/-! ## The claim -/

/-- An argument of the reference. -/
abbrev refArg (m' : (ℓ : Loc Cert.ReferenceIdeal.nD Cert.ReferenceIdeal.τ Cert.ReferenceIdeal.sig) → Buf (Elt Ideal) ℓ) (b : Ref Cert.ReferenceIdeal.sig .tc) :=
  m' (((0 : Dev Cert.ReferenceIdeal.nD) : Thread Cert.ReferenceIdeal.nD Cert.ReferenceIdeal.τ).loc b)

/-- The two sums of an entry agree. -/
theorem entry_eq (m : (ℓ : Loc nD τ sig) → Buf (Elt Ideal) ℓ) (m' : (ℓ : Loc Cert.ReferenceIdeal.nD Cert.ReferenceIdeal.τ Cert.ReferenceIdeal.sig) → Buf (Elt Ideal) ℓ)
    (hpre : Cert.Pre_KernelIdeal_finite_scores_KernelIdeal (hPre_finite_scores_KernelIdeal := facts_preK) m)
    (hag : ∀ c : Dev nD,
      m ((c : Thread nD τ).loc main_arg0) = refArg m' Cert.ReferenceIdeal.main_arg0
      ∧ m ((c : Thread nD τ).loc main_arg1) = Layout.block ⟨2, ![1024, 1024]⟩ ⟨2, ![1024, 4096]⟩ 1 4 c (refArg m' Cert.ReferenceIdeal.main_arg1)
      ∧ m ((c : Thread nD τ).loc main_arg2) = refArg m' Cert.ReferenceIdeal.main_arg2
      ∧ m ((c : Thread nD τ).loc main_arg3) = refArg m' Cert.ReferenceIdeal.main_arg3
      ∧ m ((c : Thread nD τ).loc main_arg4) = Layout.block ⟨2, ![1024, 1024]⟩ ⟨2, ![4096, 1024]⟩ 0 4 c (refArg m' Cert.ReferenceIdeal.main_arg4))
    (i n : Fin 1024) :
    (∑ d : Dev nD, ∑ k : Fin 1024, lctx d (xstg m d) (wstg m d) (kArr m d) (vArr m d) i k * (ostg m d (ix2 k n) : EReal) : EReal)
      = ∑ k : Fin 4096, Ref.rctx (refArg m' Cert.ReferenceIdeal.main_arg0) (refArg m' Cert.ReferenceIdeal.main_arg1) (refArg m' Cert.ReferenceIdeal.main_arg2)
          (refArg m' Cert.ReferenceIdeal.main_arg3) i k * (refArg m' Cert.ReferenceIdeal.main_arg4 (ix2 k n) : EReal) := by
  rw [sum_cols]
  refine Finset.sum_congr rfl fun d _ => Finset.sum_congr rfl fun k _ => ?_
  obtain ⟨h0, h1, h2, h3, h4⟩ := hag d
  obtain ⟨p0, p1, p2⟩ := hpre d
  have hx : xstg m d = refArg m' Cert.ReferenceIdeal.main_arg0 := (xstg_eq m d).trans h0
  have hK : kArr m d = refArg m' Cert.ReferenceIdeal.main_arg2 := h2
  have hV : vArr m d = refArg m' Cert.ReferenceIdeal.main_arg3 := h3
  have ho : ostg m d (ix2 k n) = refArg m' Cert.ReferenceIdeal.main_arg4 (ix2 (col d k) n) := (congrFun ((ostg_eq m d).trans h4) (ix2 k n)).trans (blockO_apply _ d k n)
  have hl : lctx d (xstg m d) (wstg m d) (kArr m d) (vArr m d) i k = Ref.rctx (xstg m d) (refArg m' Cert.ReferenceIdeal.main_arg1) (kArr m d) (vArr m d) i (col d k) :=
    lctx_eq d (xstg m d) (wstg m d) (kArr m d) (vArr m d) (refArg m' Cert.ReferenceIdeal.main_arg1)
      (fun a l => (congrFun ((wstg_eq m d).trans h1) (ix2 a l)).trans (blockW_apply _ d a l))
      (fun y => by rw [xstg_eq]; exact real_of_lt (congrFun p0 y)) (fun y => by rw [wstg_eq]; exact real_of_lt (congrFun p1 y))
      (fun y => real_of_lt (congrFun p2 y)) i k
  rw [hl, ho, hx, hK, hV]

theorem value : Cert.algebraic_KernelIdeal_ReferenceIdeal_pre_finite_scores_KernelIdeal (hPre_finite_scores_KernelIdeal := facts_preK) := by
  intro m g m' g' hpre hag
  have hout : ∀ c : Dev nD, outAt m c = Cert.ReferenceIdeal.Value.res_main_v34 (F := Ideal) m' 0 := fun c => by
    funext y
    obtain ⟨i, n, rfl⟩ : ∃ i n : Fin 1024, y = ix3 0 i n := ⟨y 1, y 2, funext fun a => by
      match a with
      | 0 => exact Fin.ext (by have : (y 0).val < 1 := (y 0).isLt; show (y 0).val = 0; omega)
      | 1 => rfl
      | 2 => rfl⟩
    exact (outAt_apply m c i n).trans ((entry_eq m m' hpre hag i n).trans (Ref.res_apply m' 0 i n).symm)
  refine ⟨Cert.ReferenceIdeal.Value.res_main_v34 (F := Ideal) m' 0, ?_, ?_⟩
  · refine (θ_run defs _ _).mono (fun r h c => ?_) (run_main m g)
    obtain ⟨hw, hK, hV⟩ := h.1 c
    exact ⟨(hw 3).trans ((finalA_out m g c).trans (hout c)), (hw 0).trans (finalA_in m g c 0 rfl), (hw 1).trans (finalA_in m g c 1 rfl), hK, hV, (hw 2).trans (finalA_in m g c 2 rfl)⟩
  · exact (θ_run Cert.ReferenceIdeal.defs _ _).mono (fun r h => h 0) (Cert.ReferenceIdeal.Value.run (F := Ideal) m' g')

end Cert.Swa
-- ==== Proof.lean ====
/-
# Sliding-window attention over four devices

The claims, from the modules under `K`.
-/
module

public import proofs.«01_k».proof.Defs
public import proofs.«01_k».proof.Proof.Gen.ReferenceIdeal.Run
public import proofs.«01_k».proof.Proof.K.Frames
public import proofs.«01_k».proof.Proof.K.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Swa.facts_preK, Cert.Swa.facts_preR,
    Cert.Swa.frame_kernel, Cert.Swa.frame_kernelIdeal, fun m g _ => Cert.Swa.frame_kernelIdeal m g trivial,
    Cert.Swa.frame_reference, fun m g _ => Cert.Swa.frame_reference m g trivial, trivial, Cert.Swa.value⟩

end Cert.Proof

end
